-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S2x2x2x56x2x128 Cert.KernelIdeal.S2x2x2x56x1x128
  ∧ IdealRules.bf16_pair.PackStatement Cert.KernelIdeal.S2x2x2x56x128
  ∧ IdealRules.bf16_pair.Statement Cert.KernelIdeal.S2x2x2x56x2x128 Cert.KernelIdeal.S2x2x2x56x1x128
  ∧ IdealRules.bf16_pair.PackStatement Cert.KernelIdeal.S8x128
  ∧ IdealRules.bf16_pair.Statement Cert.KernelIdeal.S1x1x1x8x2x128 Cert.KernelIdeal.S1x1x1x8x1x128
  ∧ IdealRules.bf16_pair.PackStatement Cert.KernelIdeal.S3x128
  ∧ IdealRules.bf16_pair.Statement Cert.KernelIdeal.S1x1x1x3x2x128 Cert.KernelIdeal.S1x1x1x3x1x128
  ∧ IdealRules.bf16_pair.Statement Cert.KernelIdeal.S1x1x1x1x2x128 Cert.KernelIdeal.S1x1x1x1x1x128
  ∧ IdealRules.bf16_pair.Statement Cert.KernelIdeal.S2x128 Cert.KernelIdeal.S1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x6528 : Shape := ⟨3, ![16, 1, 6528]⟩
abbrev S13824x3264 : Shape := ⟨2, ![13824, 3264]⟩
abbrev S13824x102 : Shape := ⟨2, ![13824, 102]⟩
abbrev S5508 : Shape := ⟨1, ![5508]⟩
abbrev S_ : Shape := ⟨0, ![]⟩
abbrev S6528x16 : Shape := ⟨2, ![6528, 16]⟩
abbrev S16x13824 : Shape := ⟨2, ![16, 13824]⟩
abbrev S16 : Shape := ⟨1, ![16]⟩
abbrev S32x8x16 : Shape := ⟨3, ![32, 8, 16]⟩
abbrev S32x128 : Shape := ⟨2, ![32, 128]⟩
abbrev S54x102 : Shape := ⟨2, ![54, 102]⟩
abbrev S56x128 : Shape := ⟨2, ![56, 128]⟩
abbrev S16x6528 : Shape := ⟨2, ![16, 6528]⟩
abbrev S1 : Shape := ⟨1, ![1]⟩
abbrev S512x3264 : Shape := ⟨2, ![512, 3264]⟩
abbrev S512x102 : Shape := ⟨2, ![512, 102]⟩
abbrev S16x512 : Shape := ⟨2, ![16, 512]⟩
abbrev S26x16x256 : Shape := ⟨3, ![26, 16, 256]⟩
abbrev S2x2x2x56x128 : Shape := ⟨5, ![2, 2, 2, 56, 128]⟩
abbrev S16x128 : Shape := ⟨2, ![16, 128]⟩
abbrev S16x128x1 : Shape := ⟨3, ![16, 128, 1]⟩
abbrev S1x16x128 : Shape := ⟨3, ![1, 16, 128]⟩
abbrev S16x16 : Shape := ⟨2, ![16, 16]⟩
abbrev S16x112 : Shape := ⟨2, ![16, 112]⟩
abbrev S8x128 : Shape := ⟨2, ![8, 128]⟩
abbrev S256x102 : Shape := ⟨2, ![256, 102]⟩
abbrev S64x102 : Shape := ⟨2, ![64, 102]⟩
abbrev S128x102 : Shape := ⟨2, ![128, 102]⟩
abbrev S102x128 : Shape := ⟨2, ![102, 128]⟩
abbrev S1x128 : Shape := ⟨2, ![1, 128]⟩
abbrev S8x128x1 : Shape := ⟨3, ![8, 128, 1]⟩
abbrev S1x1x1x8x128 : Shape := ⟨5, ![1, 1, 1, 8, 128]⟩
abbrev S6x128 : Shape := ⟨2, ![6, 128]⟩
abbrev S3x128 : Shape := ⟨2, ![3, 128]⟩
abbrev S1x1x1x3x128 : Shape := ⟨5, ![1, 1, 1, 3, 128]⟩
abbrev S16x256 : Shape := ⟨2, ![16, 256]⟩
abbrev S256x128 : Shape := ⟨2, ![256, 128]⟩
abbrev S64x128 : Shape := ⟨2, ![64, 128]⟩
abbrev S128x128 : Shape := ⟨2, ![128, 128]⟩
abbrev S1x1x1x1x128 : Shape := ⟨5, ![1, 1, 1, 1, 128]⟩
abbrev S2x128 : Shape := ⟨2, ![2, 128]⟩
abbrev S32x128x1 : Shape := ⟨3, ![32, 128, 1]⟩
abbrev S256x256 : Shape := ⟨2, ![256, 256]⟩
abbrev S1x16x256 : Shape := ⟨3, ![1, 16, 256]⟩
abbrev S256x64 : Shape := ⟨2, ![256, 64]⟩
abbrev S64x64 : Shape := ⟨2, ![64, 64]⟩
abbrev S128x64 : Shape := ⟨2, ![128, 64]⟩

abbrev nBuf : Space → Nat
  | .hbm => 20
  | .vmem => 15
  | .smem => 1
  | _ => 0

abbrev bufTy : (tb : Table) → Fin (tcTables nBuf tb) → BufTy
  | .hbm, ⟨0, _⟩ => ⟨S16x1x6528, .bf16⟩
  | .hbm, ⟨1, _⟩ => ⟨S13824x3264, .i8⟩
  | .hbm, ⟨2, _⟩ => ⟨S13824x102, .i8⟩
  | .hbm, ⟨3, _⟩ => ⟨S5508, .f32⟩
  | .hbm, ⟨4, _⟩ => ⟨S_, .f32⟩
  | .hbm, ⟨5, _⟩ => ⟨S6528x16, .bf16⟩
  | .hbm, ⟨6, _⟩ => ⟨S16x13824, .bf16⟩
  | .hbm, ⟨7, _⟩ => ⟨S16, .i8⟩
  | .hbm, ⟨8, _⟩ => ⟨S16, .i8⟩
  | .hbm, ⟨9, _⟩ => ⟨S32x8x16, .i8⟩
  | .hbm, ⟨10, _⟩ => ⟨S32x128, .i8⟩
  | .hbm, ⟨11, _⟩ => ⟨S32x8x16, .i8⟩
  | .hbm, ⟨12, _⟩ => ⟨S32x128, .i8⟩
  | .hbm, ⟨13, _⟩ => ⟨S54x102, .f32⟩
  | .hbm, ⟨14, _⟩ => ⟨S_, .i32⟩
  | .hbm, ⟨15, _⟩ => ⟨S_, .f32⟩
  | .hbm, ⟨16, _⟩ => ⟨S56x128, .f32⟩
  | .hbm, ⟨17, _⟩ => ⟨S16x6528, .bf16⟩
  | .hbm, ⟨18, _⟩ => ⟨S1, .f32⟩
  | .hbm, ⟨19, _⟩ => ⟨S16x13824, .bf16⟩
  | .local _ .vmem, ⟨0, _⟩ => ⟨S512x3264, .i8⟩
  | .local _ .vmem, ⟨1, _⟩ => ⟨S512x3264, .i8⟩
  | .local _ .vmem, ⟨2, _⟩ => ⟨S512x102, .i8⟩
  | .local _ .vmem, ⟨3, _⟩ => ⟨S512x102, .i8⟩
  | .local _ .vmem, ⟨4, _⟩ => ⟨S56x128, .f32⟩
  | .local _ .vmem, ⟨5, _⟩ => ⟨S16x6528, .bf16⟩
  | .local _ .vmem, ⟨6, _⟩ => ⟨S6528x16, .bf16⟩
  | .local _ .vmem, ⟨7, _⟩ => ⟨S16x512, .bf16⟩
  | .local _ .vmem, ⟨8, _⟩ => ⟨S16x512, .bf16⟩
  | .local _ .vmem, ⟨9, _⟩ => ⟨S32x128, .i8⟩
  | .local _ .vmem, ⟨10, _⟩ => ⟨S32x128, .i8⟩
  | .local _ .vmem, ⟨11, _⟩ => ⟨S16x512, .bf16⟩
  | .local _ .vmem, ⟨12, _⟩ => ⟨S16x512, .bf16⟩
  | .local _ .vmem, ⟨13, _⟩ => ⟨S26x16x256, .bf16⟩
  | .local _ .vmem, ⟨14, _⟩ => ⟨S2x2x2x56x128, .i32⟩
  | .local _ .smem, ⟨0, _⟩ => ⟨S1, .f32⟩
  | _, _ => ⟨S16x1x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [BitOps F]

abbrev grid0 : Pipeline.Grid := ⟨1, ![27], ![false]⟩

def k0_off1 (i : grid0.Coords) (c0_i32_12 : BitVec 32) : Fin 2 → Nat :=
  let arg0 : BitVec 32 := BitVec.ofNat 32 (i 0).val
  let c2_i32 : BitVec 32 := 2#32
  let v25 : BitVec 32 := Scalar.muli arg0 c2_i32
  let v26 : BitVec 32 := Scalar.addi v25 c0_i32_12
  let v27 : Index := Scalar.indexCast v26
  let c0_13 : Index := 0#32
  ![v27.toNat, 0]
@[reducible] def k0_t1_loop : Scf.Loop 32 :=
  let c0_i32_323 : BitVec 32 := 0#32
  let c25_i32 : BitVec 32 := 25#32
  let v715 : BitVec 32 := Scalar.addi c0_i32_323 c25_i32
  let c1_i32_324 : BitVec 32 := 1#32
  ⟨c0_i32_323, v715, c1_i32_324⟩
def k0_mult1 (k0_t1 : Fin k0_t1_loop.trips) : BitVec 32 :=
  let c0_i32_323 : BitVec 32 := 0#32
  let c1_i32_324 : BitVec 32 := 1#32
  let arg13 : BitVec 32 := Scf.iv c0_i32_323 c1_i32_324 k0_t1
  let c128_i32 : BitVec 32 := 128#32
  let v2227 : BitVec 32 := Scalar.muli arg13 c128_i32
  v2227
def k0_off2 (k0_t1 : Fin k0_t1_loop.trips) : Fin 2 → Nat :=
  let c0_853 : Index := 0#32
  let c0_i32_323 : BitVec 32 := 0#32
  let c1_i32_324 : BitVec 32 := 1#32
  let arg13 : BitVec 32 := Scf.iv c0_i32_323 c1_i32_324 k0_t1
  let c128_i32 : BitVec 32 := 128#32
  let v2227 : BitVec 32 := Scalar.muli arg13 c128_i32
  let v2228 : BitVec 32 := v2227
  let v2229 : Index := Scalar.indexCast v2228
  ![0, v2229.toNat]
def k0_off3 (k0_t1 : Fin k0_t1_loop.trips) (c0_i32_855 : BitVec 32) : Fin 5 → Nat :=
  let c0_856 : Index := 0#32
  let c0_857 : Index := 0#32
  let c0_858 : Index := 0#32
  let c2_i32_854 : BitVec 32 := 2#32
  let c0_i32_323 : BitVec 32 := 0#32
  let c1_i32_324 : BitVec 32 := 1#32
  let arg13 : BitVec 32 := Scf.iv c0_i32_323 c1_i32_324 k0_t1
  let v2236 : BitVec 32 := Scalar.muli c2_i32_854 arg13
  let v2237 : BitVec 32 := Scalar.addi v2236 c0_i32_855
  let v2238 : Index := Scalar.indexCast v2237
  let c0_859 : Index := 0#32
  ![0, 0, 0, v2238.toNat, 0]
def k0_off4 (k0_t1 : Fin k0_t1_loop.trips) (c0_i32_861 : BitVec 32) : Fin 5 → Nat :=
  let c0_862 : Index := 0#32
  let c1_863 : Index := 1#32
  let c0_864 : Index := 0#32
  let c2_i32_860 : BitVec 32 := 2#32
  let c0_i32_323 : BitVec 32 := 0#32
  let c1_i32_324 : BitVec 32 := 1#32
  let arg13 : BitVec 32 := Scf.iv c0_i32_323 c1_i32_324 k0_t1
  let v2245 : BitVec 32 := Scalar.muli c2_i32_860 arg13
  let v2246 : BitVec 32 := Scalar.addi v2245 c0_i32_861
  let v2247 : Index := Scalar.indexCast v2246
  let c0_865 : Index := 0#32
  ![0, 1, 0, v2247.toNat, 0]
def k0_off5 (k0_t1 : Fin k0_t1_loop.trips) (c0_i32_897 : BitVec 32) : Fin 5 → Nat :=
  let c0_898 : Index := 0#32
  let c0_899 : Index := 0#32
  let c1_900 : Index := 1#32
  let c2_i32_896 : BitVec 32 := 2#32
  let c0_i32_323 : BitVec 32 := 0#32
  let c1_i32_324 : BitVec 32 := 1#32
  let arg13 : BitVec 32 := Scf.iv c0_i32_323 c1_i32_324 k0_t1
  let v2408 : BitVec 32 := Scalar.muli c2_i32_896 arg13
  let v2409 : BitVec 32 := Scalar.addi v2408 c0_i32_897
  let v2410 : Index := Scalar.indexCast v2409
  let c0_901 : Index := 0#32
  ![0, 0, 1, v2410.toNat, 0]
def k0_off6 (k0_t1 : Fin k0_t1_loop.trips) (c0_i32_903 : BitVec 32) : Fin 5 → Nat :=
  let c0_904 : Index := 0#32
  let c1_905 : Index := 1#32
  let c1_906 : Index := 1#32
  let c2_i32_902 : BitVec 32 := 2#32
  let c0_i32_323 : BitVec 32 := 0#32
  let c1_i32_324 : BitVec 32 := 1#32
  let arg13 : BitVec 32 := Scf.iv c0_i32_323 c1_i32_324 k0_t1
  let v2417 : BitVec 32 := Scalar.muli c2_i32_902 arg13
  let v2418 : BitVec 32 := Scalar.addi v2417 c0_i32_903
  let v2419 : Index := Scalar.indexCast v2418
  let c0_907 : Index := 0#32
  ![0, 1, 1, v2419.toNat, 0]
def k0_off7 (k0_t1 : Fin k0_t1_loop.trips) : Fin 3 → Nat :=
  let c0_i32_323 : BitVec 32 := 0#32
  let c1_i32_324 : BitVec 32 := 1#32
  let arg13 : BitVec 32 := Scf.iv c0_i32_323 c1_i32_324 k0_t1
  let v2925 : Index := Scalar.indexCast arg13
  let c0_1022 : Index := 0#32
  let c0_1023 : Index := 0#32
  ![v2925.toNat, 0, 0]
def k0_mult2 : BitVec 32 :=
  let c3200_i32 : BitVec 32 := 3200#32
  c3200_i32
@[reducible] def k0_t2_loop : Scf.Loop 32 :=
  let c0_i32_749 : BitVec 32 := 0#32
  let c25_i32_750 : BitVec 32 := 25#32
  let v1818 : BitVec 32 := Scalar.addi c0_i32_749 c25_i32_750
  let c1_i32_751 : BitVec 32 := 1#32
  ⟨c0_i32_749, v1818, c1_i32_751⟩
def k0_mult3 (k0_t2 : Fin k0_t2_loop.trips) : BitVec 32 :=
  let c0_i32_749 : BitVec 32 := 0#32
  let c1_i32_751 : BitVec 32 := 1#32
  let arg13 : BitVec 32 := Scf.iv c0_i32_749 c1_i32_751 k0_t2
  let c128_i32 : BitVec 32 := 128#32
  let v2227 : BitVec 32 := Scalar.muli arg13 c128_i32
  v2227
def k0_off8 (k0_t2 : Fin k0_t2_loop.trips) : Fin 2 → Nat :=
  let c256_853 : Index := 256#32
  let c0_i32_749 : BitVec 32 := 0#32
  let c1_i32_751 : BitVec 32 := 1#32
  let arg13 : BitVec 32 := Scf.iv c0_i32_749 c1_i32_751 k0_t2
  let c128_i32 : BitVec 32 := 128#32
  let v2227 : BitVec 32 := Scalar.muli arg13 c128_i32
  let v2228 : BitVec 32 := v2227
  let v2229 : Index := Scalar.indexCast v2228
  ![256, v2229.toNat]
def k0_off9 (k0_t2 : Fin k0_t2_loop.trips) (c0_i32_855 : BitVec 32) : Fin 5 → Nat :=
  let c1_856 : Index := 1#32
  let c0_857 : Index := 0#32
  let c0_858 : Index := 0#32
  let c2_i32_854 : BitVec 32 := 2#32
  let c0_i32_749 : BitVec 32 := 0#32
  let c1_i32_751 : BitVec 32 := 1#32
  let arg13 : BitVec 32 := Scf.iv c0_i32_749 c1_i32_751 k0_t2
  let v2236 : BitVec 32 := Scalar.muli c2_i32_854 arg13
  let v2237 : BitVec 32 := Scalar.addi v2236 c0_i32_855
  let v2238 : Index := Scalar.indexCast v2237
  let c0_859 : Index := 0#32
  ![1, 0, 0, v2238.toNat, 0]
def k0_off10 (k0_t2 : Fin k0_t2_loop.trips) (c0_i32_861 : BitVec 32) : Fin 5 → Nat :=
  let c1_862 : Index := 1#32
  let c1_863 : Index := 1#32
  let c0_864 : Index := 0#32
  let c2_i32_860 : BitVec 32 := 2#32
  let c0_i32_749 : BitVec 32 := 0#32
  let c1_i32_751 : BitVec 32 := 1#32
  let arg13 : BitVec 32 := Scf.iv c0_i32_749 c1_i32_751 k0_t2
  let v2245 : BitVec 32 := Scalar.muli c2_i32_860 arg13
  let v2246 : BitVec 32 := Scalar.addi v2245 c0_i32_861
  let v2247 : Index := Scalar.indexCast v2246
  let c0_865 : Index := 0#32
  ![1, 1, 0, v2247.toNat, 0]
def k0_off11 (k0_t2 : Fin k0_t2_loop.trips) (c0_i32_897 : BitVec 32) : Fin 5 → Nat :=
  let c1_898 : Index := 1#32
  let c0_899 : Index := 0#32
  let c1_900 : Index := 1#32
  let c2_i32_896 : BitVec 32 := 2#32
  let c0_i32_749 : BitVec 32 := 0#32
  let c1_i32_751 : BitVec 32 := 1#32
  let arg13 : BitVec 32 := Scf.iv c0_i32_749 c1_i32_751 k0_t2
  let v2408 : BitVec 32 := Scalar.muli c2_i32_896 arg13
  let v2409 : BitVec 32 := Scalar.addi v2408 c0_i32_897
  let v2410 : Index := Scalar.indexCast v2409
  let c0_901 : Index := 0#32
  ![1, 0, 1, v2410.toNat, 0]
def k0_off12 (k0_t2 : Fin k0_t2_loop.trips) (c0_i32_903 : BitVec 32) : Fin 5 → Nat :=
  let c1_904 : Index := 1#32
  let c1_905 : Index := 1#32
  let c1_906 : Index := 1#32
  let c2_i32_902 : BitVec 32 := 2#32
  let c0_i32_749 : BitVec 32 := 0#32
  let c1_i32_751 : BitVec 32 := 1#32
  let arg13 : BitVec 32 := Scf.iv c0_i32_749 c1_i32_751 k0_t2
  let v2417 : BitVec 32 := Scalar.muli c2_i32_902 arg13
  let v2418 : BitVec 32 := Scalar.addi v2417 c0_i32_903
  let v2419 : Index := Scalar.indexCast v2418
  let c0_907 : Index := 0#32
  ![1, 1, 1, v2419.toNat, 0]
def k0_off13 (k0_t2 : Fin k0_t2_loop.trips) : Fin 3 → Nat :=
  let c0_i32_749 : BitVec 32 := 0#32
  let c1_i32_751 : BitVec 32 := 1#32
  let arg13 : BitVec 32 := Scf.iv c0_i32_749 c1_i32_751 k0_t2
  let v2925 : Index := Scalar.indexCast arg13
  let c0_1022 : Index := 0#32
  let c0_1023 : Index := 0#32
  ![v2925.toNat, 0, 0]
def k0_mult4 : BitVec 32 :=
  let c3200_i32_753 : BitVec 32 := 3200#32
  c3200_i32_753
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x3264 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x102 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S56x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x6528 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6528x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S16x1x6528 : Shape := ⟨3, ![16, 1, 6528]⟩
abbrev S13824x3264 : Shape := ⟨2, ![13824, 3264]⟩
abbrev S13824x102 : Shape := ⟨2, ![13824, 102]⟩
abbrev S5508 : Shape := ⟨1, ![5508]⟩
abbrev S_ : Shape := ⟨0, ![]⟩
abbrev S6528x16 : Shape := ⟨2, ![6528, 16]⟩
abbrev S16x13824 : Shape := ⟨2, ![16, 13824]⟩
abbrev S16 : Shape := ⟨1, ![16]⟩
abbrev S32x8x16 : Shape := ⟨3, ![32, 8, 16]⟩
abbrev S32x128 : Shape := ⟨2, ![32, 128]⟩
abbrev S54x102 : Shape := ⟨2, ![54, 102]⟩
abbrev S56x128 : Shape := ⟨2, ![56, 128]⟩
abbrev S16x6528 : Shape := ⟨2, ![16, 6528]⟩
abbrev S1 : Shape := ⟨1, ![1]⟩
abbrev S512x3264 : Shape := ⟨2, ![512, 3264]⟩
abbrev S512x102 : Shape := ⟨2, ![512, 102]⟩
abbrev S16x512 : Shape := ⟨2, ![16, 512]⟩
abbrev S26x16x256 : Shape := ⟨3, ![26, 16, 256]⟩
abbrev S2x2x2x56x128 : Shape := ⟨5, ![2, 2, 2, 56, 128]⟩
abbrev S2x2x2x56x2x128 : Shape := ⟨6, ![2, 2, 2, 56, 2, 128]⟩
abbrev S2x2x2x56x1x128 : Shape := ⟨6, ![2, 2, 2, 56, 1, 128]⟩
abbrev S16x128 : Shape := ⟨2, ![16, 128]⟩
abbrev S16x128x1 : Shape := ⟨3, ![16, 128, 1]⟩
abbrev S1x16x128 : Shape := ⟨3, ![1, 16, 128]⟩
abbrev S16x16 : Shape := ⟨2, ![16, 16]⟩
abbrev S16x112 : Shape := ⟨2, ![16, 112]⟩
abbrev S8x128 : Shape := ⟨2, ![8, 128]⟩
abbrev S256x102 : Shape := ⟨2, ![256, 102]⟩
abbrev S64x102 : Shape := ⟨2, ![64, 102]⟩
abbrev S128x102 : Shape := ⟨2, ![128, 102]⟩
abbrev S102x128 : Shape := ⟨2, ![102, 128]⟩
abbrev S1x128 : Shape := ⟨2, ![1, 128]⟩
abbrev S8x128x1 : Shape := ⟨3, ![8, 128, 1]⟩
abbrev S1x1x1x8x128 : Shape := ⟨5, ![1, 1, 1, 8, 128]⟩
abbrev S1x1x1x8x2x128 : Shape := ⟨6, ![1, 1, 1, 8, 2, 128]⟩
abbrev S1x1x1x8x1x128 : Shape := ⟨6, ![1, 1, 1, 8, 1, 128]⟩
abbrev S6x128 : Shape := ⟨2, ![6, 128]⟩
abbrev S3x128 : Shape := ⟨2, ![3, 128]⟩
abbrev S1x1x1x3x128 : Shape := ⟨5, ![1, 1, 1, 3, 128]⟩
abbrev S1x1x1x3x2x128 : Shape := ⟨6, ![1, 1, 1, 3, 2, 128]⟩
abbrev S1x1x1x3x1x128 : Shape := ⟨6, ![1, 1, 1, 3, 1, 128]⟩
abbrev S16x256 : Shape := ⟨2, ![16, 256]⟩
abbrev S256x128 : Shape := ⟨2, ![256, 128]⟩
abbrev S64x128 : Shape := ⟨2, ![64, 128]⟩
abbrev S128x128 : Shape := ⟨2, ![128, 128]⟩
abbrev S1x1x1x1x128 : Shape := ⟨5, ![1, 1, 1, 1, 128]⟩
abbrev S1x1x1x1x2x128 : Shape := ⟨6, ![1, 1, 1, 1, 2, 128]⟩
abbrev S1x1x1x1x1x128 : Shape := ⟨6, ![1, 1, 1, 1, 1, 128]⟩
abbrev S2x128 : Shape := ⟨2, ![2, 128]⟩
abbrev S32x128x1 : Shape := ⟨3, ![32, 128, 1]⟩
abbrev S256x256 : Shape := ⟨2, ![256, 256]⟩
abbrev S1x16x256 : Shape := ⟨3, ![1, 16, 256]⟩
abbrev S256x64 : Shape := ⟨2, ![256, 64]⟩
abbrev S64x64 : Shape := ⟨2, ![64, 64]⟩
abbrev S128x64 : Shape := ⟨2, ![128, 64]⟩

abbrev nBuf : Space → Nat
  | .hbm => 20
  | .vmem => 15
  | .smem => 1
  | _ => 0

abbrev bufTy : (tb : Table) → Fin (tcTables nBuf tb) → BufTy
  | .hbm, ⟨0, _⟩ => ⟨S16x1x6528, .bf16⟩
  | .hbm, ⟨1, _⟩ => ⟨S13824x3264, .i8⟩
  | .hbm, ⟨2, _⟩ => ⟨S13824x102, .i8⟩
  | .hbm, ⟨3, _⟩ => ⟨S5508, .f32⟩
  | .hbm, ⟨4, _⟩ => ⟨S_, .f32⟩
  | .hbm, ⟨5, _⟩ => ⟨S6528x16, .bf16⟩
  | .hbm, ⟨6, _⟩ => ⟨S16x13824, .bf16⟩
  | .hbm, ⟨7, _⟩ => ⟨S16, .i8⟩
  | .hbm, ⟨8, _⟩ => ⟨S16, .i8⟩
  | .hbm, ⟨9, _⟩ => ⟨S32x8x16, .i8⟩
  | .hbm, ⟨10, _⟩ => ⟨S32x128, .i8⟩
  | .hbm, ⟨11, _⟩ => ⟨S32x8x16, .i8⟩
  | .hbm, ⟨12, _⟩ => ⟨S32x128, .i8⟩
  | .hbm, ⟨13, _⟩ => ⟨S54x102, .f32⟩
  | .hbm, ⟨14, _⟩ => ⟨S_, .i32⟩
  | .hbm, ⟨15, _⟩ => ⟨S_, .f32⟩
  | .hbm, ⟨16, _⟩ => ⟨S56x128, .f32⟩
  | .hbm, ⟨17, _⟩ => ⟨S16x6528, .bf16⟩
  | .hbm, ⟨18, _⟩ => ⟨S1, .f32⟩
  | .hbm, ⟨19, _⟩ => ⟨S16x13824, .bf16⟩
  | .local _ .vmem, ⟨0, _⟩ => ⟨S512x3264, .i8⟩
  | .local _ .vmem, ⟨1, _⟩ => ⟨S512x3264, .i8⟩
  | .local _ .vmem, ⟨2, _⟩ => ⟨S512x102, .i8⟩
  | .local _ .vmem, ⟨3, _⟩ => ⟨S512x102, .i8⟩
  | .local _ .vmem, ⟨4, _⟩ => ⟨S56x128, .f32⟩
  | .local _ .vmem, ⟨5, _⟩ => ⟨S16x6528, .bf16⟩
  | .local _ .vmem, ⟨6, _⟩ => ⟨S6528x16, .bf16⟩
  | .local _ .vmem, ⟨7, _⟩ => ⟨S16x512, .bf16⟩
  | .local _ .vmem, ⟨8, _⟩ => ⟨S16x512, .bf16⟩
  | .local _ .vmem, ⟨9, _⟩ => ⟨S32x128, .i8⟩
  | .local _ .vmem, ⟨10, _⟩ => ⟨S32x128, .i8⟩
  | .local _ .vmem, ⟨11, _⟩ => ⟨S16x512, .bf16⟩
  | .local _ .vmem, ⟨12, _⟩ => ⟨S16x512, .bf16⟩
  | .local _ .vmem, ⟨13, _⟩ => ⟨S26x16x256, .bf16⟩
  | .local _ .vmem, ⟨14, _⟩ => ⟨S2x2x2x56x2x128, .bf16⟩
  | .local _ .smem, ⟨0, _⟩ => ⟨S1, .f32⟩
  | _, _ => ⟨S16x1x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![27], ![false]⟩

def k0_off1 (i : grid0.Coords) (c0_i32_12 : BitVec 32) : Fin 2 → Nat :=
  let arg0 : BitVec 32 := BitVec.ofNat 32 (i 0).val
  let c2_i32 : BitVec 32 := 2#32
  let v25 : BitVec 32 := Scalar.muli arg0 c2_i32
  let v26 : BitVec 32 := Scalar.addi v25 c0_i32_12
  let v27 : Index := Scalar.indexCast v26
  let c0_13 : Index := 0#32
  ![v27.toNat, 0]
@[reducible] def k0_t1_loop : Scf.Loop 32 :=
  let c0_i32_323 : BitVec 32 := 0#32
  let c25_i32 : BitVec 32 := 25#32
  let v715 : BitVec 32 := Scalar.addi c0_i32_323 c25_i32
  let c1_i32_324 : BitVec 32 := 1#32
  ⟨c0_i32_323, v715, c1_i32_324⟩
def k0_mult1 (k0_t1 : Fin k0_t1_loop.trips) : BitVec 32 :=
  let c0_i32_323 : BitVec 32 := 0#32
  let c1_i32_324 : BitVec 32 := 1#32
  let arg13 : BitVec 32 := Scf.iv c0_i32_323 c1_i32_324 k0_t1
  let c128_i32 : BitVec 32 := 128#32
  let v2227 : BitVec 32 := Scalar.muli arg13 c128_i32
  v2227
def k0_off2 (k0_t1 : Fin k0_t1_loop.trips) : Fin 2 → Nat :=
  let c0_853 : Index := 0#32
  let c0_i32_323 : BitVec 32 := 0#32
  let c1_i32_324 : BitVec 32 := 1#32
  let arg13 : BitVec 32 := Scf.iv c0_i32_323 c1_i32_324 k0_t1
  let c128_i32 : BitVec 32 := 128#32
  let v2227 : BitVec 32 := Scalar.muli arg13 c128_i32
  let v2228 : BitVec 32 := v2227
  let v2229 : Index := Scalar.indexCast v2228
  ![0, v2229.toNat]
def k0_off3 (k0_t1 : Fin k0_t1_loop.trips) (c0_i32_855 : BitVec 32) : Fin 6 → Nat :=
  let c0_856 : Index := 0#32
  let c0_857 : Index := 0#32
  let c0_858 : Index := 0#32
  let c2_i32_854 : BitVec 32 := 2#32
  let c0_i32_323 : BitVec 32 := 0#32
  let c1_i32_324 : BitVec 32 := 1#32
  let arg13 : BitVec 32 := Scf.iv c0_i32_323 c1_i32_324 k0_t1
  let v2236 : BitVec 32 := Scalar.muli c2_i32_854 arg13
  let v2237 : BitVec 32 := Scalar.addi v2236 c0_i32_855
  let v2238 : Index := Scalar.indexCast v2237
  let c0_859 : Index := 0#32
  ![0, 0, 0, v2238.toNat, 0, 0]
def k0_off4 (k0_t1 : Fin k0_t1_loop.trips) (c0_i32_861 : BitVec 32) : Fin 6 → Nat :=
  let c0_862 : Index := 0#32
  let c1_863 : Index := 1#32
  let c0_864 : Index := 0#32
  let c2_i32_860 : BitVec 32 := 2#32
  let c0_i32_323 : BitVec 32 := 0#32
  let c1_i32_324 : BitVec 32 := 1#32
  let arg13 : BitVec 32 := Scf.iv c0_i32_323 c1_i32_324 k0_t1
  let v2245 : BitVec 32 := Scalar.muli c2_i32_860 arg13
  let v2246 : BitVec 32 := Scalar.addi v2245 c0_i32_861
  let v2247 : Index := Scalar.indexCast v2246
  let c0_865 : Index := 0#32
  ![0, 1, 0, v2247.toNat, 0, 0]
def k0_off5 (k0_t1 : Fin k0_t1_loop.trips) (c0_i32_897 : BitVec 32) : Fin 6 → Nat :=
  let c0_898 : Index := 0#32
  let c0_899 : Index := 0#32
  let c1_900 : Index := 1#32
  let c2_i32_896 : BitVec 32 := 2#32
  let c0_i32_323 : BitVec 32 := 0#32
  let c1_i32_324 : BitVec 32 := 1#32
  let arg13 : BitVec 32 := Scf.iv c0_i32_323 c1_i32_324 k0_t1
  let v2408 : BitVec 32 := Scalar.muli c2_i32_896 arg13
  let v2409 : BitVec 32 := Scalar.addi v2408 c0_i32_897
  let v2410 : Index := Scalar.indexCast v2409
  let c0_901 : Index := 0#32
  ![0, 0, 1, v2410.toNat, 0, 0]
def k0_off6 (k0_t1 : Fin k0_t1_loop.trips) (c0_i32_903 : BitVec 32) : Fin 6 → Nat :=
  let c0_904 : Index := 0#32
  let c1_905 : Index := 1#32
  let c1_906 : Index := 1#32
  let c2_i32_902 : BitVec 32 := 2#32
  let c0_i32_323 : BitVec 32 := 0#32
  let c1_i32_324 : BitVec 32 := 1#32
  let arg13 : BitVec 32 := Scf.iv c0_i32_323 c1_i32_324 k0_t1
  let v2417 : BitVec 32 := Scalar.muli c2_i32_902 arg13
  let v2418 : BitVec 32 := Scalar.addi v2417 c0_i32_903
  let v2419 : Index := Scalar.indexCast v2418
  let c0_907 : Index := 0#32
  ![0, 1, 1, v2419.toNat, 0, 0]
def k0_off7 (k0_t1 : Fin k0_t1_loop.trips) : Fin 3 → Nat :=
  let c0_i32_323 : BitVec 32 := 0#32
  let c1_i32_324 : BitVec 32 := 1#32
  let arg13 : BitVec 32 := Scf.iv c0_i32_323 c1_i32_324 k0_t1
  let v2925 : Index := Scalar.indexCast arg13
  let c0_1022 : Index := 0#32
  let c0_1023 : Index := 0#32
  ![v2925.toNat, 0, 0]
def k0_mult2 : BitVec 32 :=
  let c3200_i32 : BitVec 32 := 3200#32
  c3200_i32
@[reducible] def k0_t2_loop : Scf.Loop 32 :=
  let c0_i32_749 : BitVec 32 := 0#32
  let c25_i32_750 : BitVec 32 := 25#32
  let v1818 : BitVec 32 := Scalar.addi c0_i32_749 c25_i32_750
  let c1_i32_751 : BitVec 32 := 1#32
  ⟨c0_i32_749, v1818, c1_i32_751⟩
def k0_mult3 (k0_t2 : Fin k0_t2_loop.trips) : BitVec 32 :=
  let c0_i32_749 : BitVec 32 := 0#32
  let c1_i32_751 : BitVec 32 := 1#32
  let arg13 : BitVec 32 := Scf.iv c0_i32_749 c1_i32_751 k0_t2
  let c128_i32 : BitVec 32 := 128#32
  let v2227 : BitVec 32 := Scalar.muli arg13 c128_i32
  v2227
def k0_off8 (k0_t2 : Fin k0_t2_loop.trips) : Fin 2 → Nat :=
  let c256_853 : Index := 256#32
  let c0_i32_749 : BitVec 32 := 0#32
  let c1_i32_751 : BitVec 32 := 1#32
  let arg13 : BitVec 32 := Scf.iv c0_i32_749 c1_i32_751 k0_t2
  let c128_i32 : BitVec 32 := 128#32
  let v2227 : BitVec 32 := Scalar.muli arg13 c128_i32
  let v2228 : BitVec 32 := v2227
  let v2229 : Index := Scalar.indexCast v2228
  ![256, v2229.toNat]
def k0_off9 (k0_t2 : Fin k0_t2_loop.trips) (c0_i32_855 : BitVec 32) : Fin 6 → Nat :=
  let c1_856 : Index := 1#32
  let c0_857 : Index := 0#32
  let c0_858 : Index := 0#32
  let c2_i32_854 : BitVec 32 := 2#32
  let c0_i32_749 : BitVec 32 := 0#32
  let c1_i32_751 : BitVec 32 := 1#32
  let arg13 : BitVec 32 := Scf.iv c0_i32_749 c1_i32_751 k0_t2
  let v2236 : BitVec 32 := Scalar.muli c2_i32_854 arg13
  let v2237 : BitVec 32 := Scalar.addi v2236 c0_i32_855
  let v2238 : Index := Scalar.indexCast v2237
  let c0_859 : Index := 0#32
  ![1, 0, 0, v2238.toNat, 0, 0]
def k0_off10 (k0_t2 : Fin k0_t2_loop.trips) (c0_i32_861 : BitVec 32) : Fin 6 → Nat :=
  let c1_862 : Index := 1#32
  let c1_863 : Index := 1#32
  let c0_864 : Index := 0#32
  let c2_i32_860 : BitVec 32 := 2#32
  let c0_i32_749 : BitVec 32 := 0#32
  let c1_i32_751 : BitVec 32 := 1#32
  let arg13 : BitVec 32 := Scf.iv c0_i32_749 c1_i32_751 k0_t2
  let v2245 : BitVec 32 := Scalar.muli c2_i32_860 arg13
  let v2246 : BitVec 32 := Scalar.addi v2245 c0_i32_861
  let v2247 : Index := Scalar.indexCast v2246
  let c0_865 : Index := 0#32
  ![1, 1, 0, v2247.toNat, 0, 0]
def k0_off11 (k0_t2 : Fin k0_t2_loop.trips) (c0_i32_897 : BitVec 32) : Fin 6 → Nat :=
  let c1_898 : Index := 1#32
  let c0_899 : Index := 0#32
  let c1_900 : Index := 1#32
  let c2_i32_896 : BitVec 32 := 2#32
  let c0_i32_749 : BitVec 32 := 0#32
  let c1_i32_751 : BitVec 32 := 1#32
  let arg13 : BitVec 32 := Scf.iv c0_i32_749 c1_i32_751 k0_t2
  let v2408 : BitVec 32 := Scalar.muli c2_i32_896 arg13
  let v2409 : BitVec 32 := Scalar.addi v2408 c0_i32_897
  let v2410 : Index := Scalar.indexCast v2409
  let c0_901 : Index := 0#32
  ![1, 0, 1, v2410.toNat, 0, 0]
def k0_off12 (k0_t2 : Fin k0_t2_loop.trips) (c0_i32_903 : BitVec 32) : Fin 6 → Nat :=
  let c1_904 : Index := 1#32
  let c1_905 : Index := 1#32
  let c1_906 : Index := 1#32
  let c2_i32_902 : BitVec 32 := 2#32
  let c0_i32_749 : BitVec 32 := 0#32
  let c1_i32_751 : BitVec 32 := 1#32
  let arg13 : BitVec 32 := Scf.iv c0_i32_749 c1_i32_751 k0_t2
  let v2417 : BitVec 32 := Scalar.muli c2_i32_902 arg13
  let v2418 : BitVec 32 := Scalar.addi v2417 c0_i32_903
  let v2419 : Index := Scalar.indexCast v2418
  let c0_907 : Index := 0#32
  ![1, 1, 1, v2419.toNat, 0, 0]
def k0_off13 (k0_t2 : Fin k0_t2_loop.trips) : Fin 3 → Nat :=
  let c0_i32_749 : BitVec 32 := 0#32
  let c1_i32_751 : BitVec 32 := 1#32
  let arg13 : BitVec 32 := Scf.iv c0_i32_749 c1_i32_751 k0_t2
  let v2925 : Index := Scalar.indexCast arg13
  let c0_1022 : Index := 0#32
  let c0_1023 : Index := 0#32
  ![v2925.toNat, 0, 0]
def k0_mult4 : BitVec 32 :=
  let c3200_i32_753 : BitVec 32 := 3200#32
  c3200_i32_753
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x3264 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x102 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S56x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x6528 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6528x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16x1x6528 : Shape := ⟨3, ![16, 1, 6528]⟩
abbrev S13824x3264 : Shape := ⟨2, ![13824, 3264]⟩
abbrev S13824x102 : Shape := ⟨2, ![13824, 102]⟩
abbrev S5508 : Shape := ⟨1, ![5508]⟩
abbrev S_ : Shape := ⟨0, ![]⟩
abbrev S6528x16 : Shape := ⟨2, ![6528, 16]⟩
abbrev S16x13824 : Shape := ⟨2, ![16, 13824]⟩
abbrev S16x3264x2 : Shape := ⟨3, ![16, 3264, 2]⟩
abbrev S16x3264x1 : Shape := ⟨3, ![16, 3264, 1]⟩
abbrev S16x3264 : Shape := ⟨2, ![16, 3264]⟩
abbrev S5508x1 : Shape := ⟨2, ![5508, 1]⟩
abbrev S5508x256 : Shape := ⟨2, ![5508, 256]⟩
abbrev S16x6528 : Shape := ⟨2, ![16, 6528]⟩
abbrev S13824x102x32 : Shape := ⟨3, ![13824, 102, 32]⟩
abbrev S1 : Shape := ⟨1, ![1]⟩
abbrev S13824x102x1 : Shape := ⟨3, ![13824, 102, 1]⟩
abbrev S16x16 : Shape := ⟨2, ![16, 16]⟩

abbrev nBuf : Space → Nat
  | .hbm => 19
  | .vmem => 9
  | .smem => 1
  | _ => 0

abbrev bufTy : (tb : Table) → Fin (tcTables nBuf tb) → BufTy
  | .hbm, ⟨0, _⟩ => ⟨S16x1x6528, .bf16⟩
  | .hbm, ⟨1, _⟩ => ⟨S13824x3264, .i8⟩
  | .hbm, ⟨2, _⟩ => ⟨S13824x102, .i8⟩
  | .hbm, ⟨3, _⟩ => ⟨S5508, .f32⟩
  | .hbm, ⟨4, _⟩ => ⟨S_, .f32⟩
  | .hbm, ⟨5, _⟩ => ⟨S6528x16, .bf16⟩
  | .hbm, ⟨6, _⟩ => ⟨S16x13824, .bf16⟩
  | .hbm, ⟨7, _⟩ => ⟨S16x3264x2, .bf16⟩
  | .hbm, ⟨8, _⟩ => ⟨S16x3264x1, .bf16⟩
  | .hbm, ⟨9, _⟩ => ⟨S16x3264, .bf16⟩
  | .hbm, ⟨10, _⟩ => ⟨S16x3264x1, .bf16⟩
  | .hbm, ⟨11, _⟩ => ⟨S16x3264, .bf16⟩
  | .hbm, ⟨12, _⟩ => ⟨S5508x1, .f32⟩
  | .hbm, ⟨13, _⟩ => ⟨S5508x256, .f32⟩
  | .hbm, ⟨14, _⟩ => ⟨S13824x102, .f32⟩
  | .hbm, ⟨15, _⟩ => ⟨S16x6528, .bf16⟩
  | .hbm, ⟨16, _⟩ => ⟨S13824x102x32, .i8⟩
  | .hbm, ⟨17, _⟩ => ⟨S1, .f32⟩
  | .hbm, ⟨18, _⟩ => ⟨S16x13824, .bf16⟩
  | .local _ .vmem, ⟨0, _⟩ => ⟨S16x6528, .bf16⟩
  | .local _ .vmem, ⟨1, _⟩ => ⟨S16x3264, .bf16⟩
  | .local _ .vmem, ⟨2, _⟩ => ⟨S16x3264, .bf16⟩
  | .local _ .vmem, ⟨3, _⟩ => ⟨S13824x102x32, .i8⟩
  | .local _ .vmem, ⟨4, _⟩ => ⟨S13824x102, .i8⟩
  | .local _ .vmem, ⟨5, _⟩ => ⟨S13824x102, .f32⟩
  | .local _ .vmem, ⟨6, _⟩ => ⟨S6528x16, .bf16⟩
  | .local _ .vmem, ⟨7, _⟩ => ⟨S16x13824, .bf16⟩
  | .local _ .vmem, ⟨8, _⟩ => ⟨S16x13824, .bf16⟩
  | .local _ .smem, ⟨0, _⟩ => ⟨S1, .f32⟩
  | _, _ => ⟨S16x1x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S16x6528 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3264 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3264 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S13824x102x32 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S13824x102 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S13824x102 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6528x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x13824 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x13824 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Bytes.lean ====
/- Words, half words and bytes of a column: what the kernel's width-changing bitcasts are, bit by bit, and the two
   byte-level facts the dequantisation rests on: which byte of the packed weights a row of the unpacked word is, and
   how two table bytes make one sixteen-bit level. -/
module

public import Idealize.ShloMosaic.Lib.Pointwise
public import Idealize.ShloMosaic.Lib.BitcastPair

@[expose] public section

set_option maxRecDepth 16384

namespace Cert.Bytes

open Idealize.ShloMosaic

/-- A bitcast of a two-axis array, bit by bit: bit `q` of row `r` is bit `p % v` of source row `p / v`, `p = r w + q`. -/
theorem bitcast_bit {R R' C v w : ℕ} (x : (⟨2, ![R, C]⟩ : Shape).Idx → BitVec v)
    (h : (⟨2, ![R, C]⟩ : Shape).Bitcasts v ⟨2, ![R', C]⟩ w) (hv : 0 < v) (r : Fin R') (l : Fin C) (q : ℕ) (hq : q < w)
    (s : Fin R) (b : ℕ) (hs : r.val * w + q = s.val * v + b) (hb : b < v) :
    (bitcast ⟨2, ![R', C]⟩ w x h (ix2 r l)).getLsbD q = (x (ix2 s l)).getLsbD b := by
  have e1 : (r.val * w + q) / v = s.val := by
    rw [hs, mul_comm, Nat.mul_add_div hv, Nat.div_eq_of_lt hb, add_zero]
  have e2 : (r.val * w + q) % v = b := by
    rw [hs, mul_comm, Nat.mul_add_mod, Nat.mod_eq_of_lt hb]
  rw [bitcast_getLsbD x h (ix2 r l) q hq hv]
  have erow : (⟨2, ![R', C]⟩ : Shape).row (ix2 r l) = r.val := rfl
  simp only [erow, e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

end Cert.Bytes
-- ==== Proof.Absmax.lean ====
/- THE ABSMAXES the kernel keeps in its scratch: code times scale plus offset, one value per output row and block of 64
   weights, each stored twice (a pair of halves). The kernel computes them tile by tile: sixteen blocks (eight of each
   parity) by 128 output rows of one parity. The tiles as definitions, the list of stores they make, and what the
   scratch then holds. -/
module

public import proofs.«01_k».proof.Proof.Gen.KernelIdeal.Skeleton
public import proofs.«01_k».proof.Proof.Bytes

@[expose] public section

set_option maxRecDepth 16384

noncomputable section

namespace Cert.KernelIdeal.Absmax

open Idealize.ShloMosaic Idealize.SL.Sem Cert.KernelIdeal.Gen

variable {F : FTy → Type} [FloatOps F]

/-! ## The definitions -/

/-- The codes of 256 rows, rows paired into half words, transposed. -/
def codesT (X : Vec F S256x102 .i8) : IVec S102x128 16 :=
  transpose S102x128 [1, 0] (bitcast S128x102 16 (bitcast S64x102 32 X bitcasts_S256x102_w8_S64x102_w32)
    bitcasts_S64x102_w32_S128x102_w16) transposes_S128x102_p1_0_S102x128

/-- The strip's scales, one copy a sublane. -/
def scales (r : Vec F S1x128 .f32) : FVec F S8x128 .f32 :=
  broadcastTo S8x128 (shapeCast S1x128 (shapeCast S1x128 r shapeCasts_S1x128_S1x128) shapeCasts_S1x128_S1x128)
    broadcasts_S1x128_S8x128

def lane : IVec S8x128 32 := iota .tc S8x128 32 [1] iota_S8x128_d1_w32

def sub : IVec S8x128 32 := iota .tc S8x128 32 [0] iota_S8x128_d0_w32

/-- The row within the strip at a lane. -/
def rowOf (e : BitVec 32) : IVec S8x128 32 :=
  addi (muli (broadcast S8x128 2#32) lane) (broadcast S8x128 e)

/-- The group of the row's first block. -/
def grp (e : BitVec 32) : IVec S8x128 32 :=
  shrsi (muli (rowOf e) (broadcast S8x128 102#32)) (broadcast S8x128 8#32)

/-- The group after it, no further than the strip's last. -/
def grpNext (e : BitVec 32) : IVec S8x128 32 :=
  minsi (addi (grp e) (broadcast S8x128 1#32)) (broadcast S8x128 101#32)

/-- The first block of the row that lies in the next group. -/
def bound (e : BitVec 32) : IVec S8x128 32 :=
  subi (muli (broadcast S8x128 256#32) (addi (grp e) (broadcast S8x128 1#32))) (muli (broadcast S8x128 102#32) (rowOf e))

def pick (scr : FVec F S8x128 .f32) (g : IVec S8x128 32) : FVec F S8x128 .f32 :=
  dynamicGather 1 scr (shapeCast S8x128 (shapeCast S8x128x1 g shapeCasts_S8x128_S8x128x1) shapeCasts_S8x128x1_S8x128)

/-- Sixteen rows of half words as words. -/
def words8 (y : IVec S102x128 16) (o : ℕ) (h : S102x128.Slices ![o, 0] S16x128) : IVec S8x128 32 :=
  bitcast S8x128 32 (extractStridedSlice S16x128 ![o, 0] y h) bitcasts_S16x128_w16_S8x128_w32

/-- The last six rows of half words as words. -/
def words3 (y : IVec S102x128 16) : IVec S3x128 32 :=
  bitcast S3x128 32 (extractStridedSlice S6x128 ![96, 0] y slices_S102x128_o96_0_S6x128) bitcasts_S6x128_w16_S3x128_w32

/-- A tile of eight blocks' absmaxes. -/
def tile8 (w : IVec S8x128 32) (scr : FVec F S8x128 .f32) (off : Elt F .f32) (sh e base p : BitVec 32) : FVec F S8x128 .f32 :=
  addf (mulf (sitofp .f32 (shrsi (shli w (broadcast S8x128 sh)) (broadcast S8x128 24#32)))
      (select (cmpi .slt (addi (addi (broadcast S8x128 base) (muli (broadcast S8x128 2#32) sub)) (broadcast S8x128 p)) (bound e))
        (pick scr (grp e)) (pick scr (grpNext e))))
    (broadcast S8x128 off)

/-- The tile of the last three blocks of a parity. -/
def tile3 (w : IVec S3x128 32) (scr : FVec F S8x128 .f32) (off : Elt F .f32) (sh e base p : BitVec 32) : FVec F S3x128 .f32 :=
  addf (mulf (sitofp .f32 (shrsi (shli w (broadcast S3x128 sh)) (broadcast S3x128 24#32)))
      (select (cmpi .slt (addi (addi (broadcast S3x128 base) (muli (broadcast S3x128 2#32)
            (extractStridedSlice S3x128 ![0, 0] sub slices_S8x128_o0_0_S3x128))) (broadcast S3x128 p))
          (extractStridedSlice S3x128 ![0, 0] (bound e) slices_S8x128_o0_0_S3x128))
        (extractStridedSlice S3x128 ![0, 0] (pick scr (grp e)) slices_S8x128_o0_0_S3x128)
        (extractStridedSlice S3x128 ![0, 0] (pick scr (grpNext e)) slices_S8x128_o0_0_S3x128)))
    (broadcast S3x128 off)

/-- A tile as it is stored, each value twice. -/
def twice8 (f : FVec F S8x128 .f32) : Vec F S1x1x1x8x2x128 .bf16 :=
  interleaveRows S1x1x1x8x2x128
    (shapeCast S1x1x1x8x1x128 (shapeCast S1x1x1x8x128 (truncf .bf16 f bitsLt_bf16_f32) shapeCasts_S8x128_S1x1x1x8x128) shapeCasts_S1x1x1x8x128_S1x1x1x8x1x128)
    (shapeCast S1x1x1x8x1x128 (shapeCast S1x1x1x8x128 (truncf .bf16 f bitsLt_bf16_f32) shapeCasts_S8x128_S1x1x1x8x128) shapeCasts_S1x1x1x8x128_S1x1x1x8x1x128)
    bitcasts_S1x1x1x8x2x128_w16_S1x1x1x8x1x128_w32

def twice3 (f : FVec F S3x128 .f32) : Vec F S1x1x1x3x2x128 .bf16 :=
  interleaveRows S1x1x1x3x2x128
    (shapeCast S1x1x1x3x1x128 (shapeCast S1x1x1x3x128 (truncf .bf16 f bitsLt_bf16_f32) shapeCasts_S3x128_S1x1x1x3x128) shapeCasts_S1x1x1x3x128_S1x1x1x3x1x128)
    (shapeCast S1x1x1x3x1x128 (shapeCast S1x1x1x3x128 (truncf .bf16 f bitsLt_bf16_f32) shapeCasts_S3x128_S1x1x1x3x128) shapeCasts_S1x1x1x3x128_S1x1x1x3x1x128)
    bitcasts_S1x1x1x3x2x128_w16_S1x1x1x3x1x128_w32

theorem inb8 (s e p : Fin 2) (t : Fin 6) :
    ∀ a, (![s.val, e.val, p.val, 8 * t.val, 0, 0] : Fin 6 → ℕ) a + S1x1x1x8x2x128.size a ≤ S2x2x2x56x2x128.size a := by
  intro a
  match a with
  | ⟨0, _⟩ => show s.val + 1 ≤ 2; omega
  | ⟨1, _⟩ => show e.val + 1 ≤ 2; omega
  | ⟨2, _⟩ => show p.val + 1 ≤ 2; omega
  | ⟨3, _⟩ => show 8 * t.val + 8 ≤ 56; omega
  | ⟨4, _⟩ => exact Nat.le_refl 2
  | ⟨5, _⟩ => exact Nat.le_refl 128

theorem inb3 (s e p : Fin 2) :
    ∀ a, (![s.val, e.val, p.val, 48, 0, 0] : Fin 6 → ℕ) a + S1x1x1x3x2x128.size a ≤ S2x2x2x56x2x128.size a := by
  intro a
  match a with
  | ⟨0, _⟩ => show s.val + 1 ≤ 2; omega
  | ⟨1, _⟩ => show e.val + 1 ≤ 2; omega
  | ⟨2, _⟩ => show p.val + 1 ≤ 2; omega
  | ⟨3, _⟩ => show 48 + 3 ≤ 56; omega
  | ⟨4, _⟩ => exact Nat.le_refl 2
  | ⟨5, _⟩ => exact Nat.le_refl 128

theorem slices16 (t : Fin 6) : S102x128.Slices ![16 * t.val, 0] S16x128 := by
  fin_cases t
  exacts [slices_S102x128_o0_0_S16x128, slices_S102x128_o16_0_S16x128, slices_S102x128_o32_0_S16x128,
    slices_S102x128_o48_0_S16x128, slices_S102x128_o64_0_S16x128, slices_S102x128_o80_0_S16x128]

section Stores
variable (s : Fin 2) (y : IVec S102x128 16) (scr : FVec F S8x128 .f32) (off : Elt F .f32)

/-- The store of tile `t` of rows of parity `e` and blocks of parity `p`. -/
def st8 (e p : Fin 2) (t : Fin 6) : View.Piece (Elt F) S2x2x2x56x2x128 .bf16 :=
  ⟨Rect.unit ![s.val, e.val, p.val, 8 * t.val, 0, 0] S1x1x1x8x2x128.size (inb8 s e p t),
    twice8 (tile8 (words8 y (16 * t.val) (slices16 t)) scr off (BitVec.ofNat 32 (24 - 8 * (2 * p.val + e.val)))
      (BitVec.ofNat 32 e.val) (BitVec.ofNat 32 (16 * t.val)) (BitVec.ofNat 32 p.val))⟩

/-- The store of the last tile. -/
def st3 (e p : Fin 2) : View.Piece (Elt F) S2x2x2x56x2x128 .bf16 :=
  ⟨Rect.unit ![s.val, e.val, p.val, 48, 0, 0] S1x1x1x3x2x128.size (inb3 s e p),
    twice3 (tile3 (words3 y) scr off (BitVec.ofNat 32 (24 - 8 * (2 * p.val + e.val)))
      (BitVec.ofNat 32 e.val) 96#32 (BitVec.ofNat 32 p.val))⟩

/-- The stores of a parity of rows, the last first. -/
def stores1 (e : Fin 2) : List (View.Piece (Elt F) S2x2x2x56x2x128 .bf16) :=
  [st3 s y scr off e 1, st3 s y scr off e 0, st8 s y scr off e 1 5, st8 s y scr off e 0 5, st8 s y scr off e 1 4,
    st8 s y scr off e 0 4, st8 s y scr off e 1 3, st8 s y scr off e 0 3, st8 s y scr off e 1 2, st8 s y scr off e 0 2,
    st8 s y scr off e 1 1, st8 s y scr off e 0 1, st8 s y scr off e 1 0, st8 s y scr off e 0 0]

/-- The stores of a strip, the last first. -/
def stores : List (View.Piece (Elt F) S2x2x2x56x2x128 .bf16) :=
  stores1 s y scr off 1 ++ stores1 s y scr off 0

end Stores

/-- The zeros stored first. -/
def fill : View.Piece (Elt F) S2x2x2x56x2x128 .bf16 :=
  ⟨Rect.unit ![0, 0, 0, 0, 0, 0] S2x2x2x56x2x128.size inb_S2x2x2x56x2x128_S2x2x2x56x2x128_0_0_0_0_0_0, k0_pay392⟩

end Cert.KernelIdeal.Absmax
-- ==== Proof.AbsmaxValue.lean ====
/- WHAT THE ABSMAX SCRATCH HOLDS once a strip's stores are made: at row `2l+e` of the strip and block `2b+p`, the code of
   that row and block times the scale of its group, plus the offset. -/
module

public import proofs.«01_k».proof.Proof.Absmax

@[expose] public section

set_option maxRecDepth 16384

noncomputable section

namespace Cert.KernelIdeal.Absmax

open Idealize.ShloMosaic Idealize.SL.Sem Cert.KernelIdeal.Gen Cert.Bytes

/-! ## The integers -/

theorem grp_bits : ∀ (e : Fin 2) (l : Fin 128),
    IntOp.shrsi ArithUnit.vector (IntOp.muli (IntOp.addi (IntOp.muli (2#32) (BitVec.ofNat 32 l.val)) (BitVec.ofNat 32 e.val)) 102#32) 8#32
      = BitVec.ofNat 32 ((2 * l.val + e.val) * 102 / 256) := by
  decide +kernel

theorem bound_bits : ∀ (e : Fin 2) (l : Fin 128),
    IntOp.subi (IntOp.muli (256#32) (IntOp.addi (BitVec.ofNat 32 ((2 * l.val + e.val) * 102 / 256)) 1#32))
      (IntOp.muli (102#32) (IntOp.addi (IntOp.muli (2#32) (BitVec.ofNat 32 l.val)) (BitVec.ofNat 32 e.val)))
      = BitVec.ofNat 32 (256 * ((2 * l.val + e.val) * 102 / 256 + 1) - 102 * (2 * l.val + e.val)) := by
  decide +kernel

theorem next_bits : ∀ (e : Fin 2) (l : Fin 128),
    IntOp.minsi (IntOp.addi (BitVec.ofNat 32 ((2 * l.val + e.val) * 102 / 256)) 1#32) 101#32
      = BitVec.ofNat 32 (min ((2 * l.val + e.val) * 102 / 256 + 1) 101) := by
  decide +kernel

theorem blk_bits : ∀ (t : Fin 7) (p : Fin 2) (r : Fin 8),
    IntOp.addi (IntOp.addi (BitVec.ofNat 32 (16 * t.val)) (IntOp.muli (2#32) (BitVec.ofNat 32 r.val))) (BitVec.ofNat 32 p.val)
      = BitVec.ofNat 32 (16 * t.val + 2 * r.val + p.val) := by
  decide +kernel

theorem slt_bits (a b : ℕ) (ha : a < 1000) (hb : b < 1000) :
    IntOp.cmpi CmpIPredicate.slt (BitVec.ofNat 32 a) (BitVec.ofNat 32 b) = if a < b then 1#1 else 0#1 := by
  have h : ∀ n, n < 1000 → (BitVec.ofNat 32 n).toInt = n := by
    intro n hn
    rw [BitVec.toInt_ofNat']
    rw [Int.bmod_eq_of_le] <;> omega
  show BitVec.ofBool (BitVec.slt _ _) = _
  unfold BitVec.slt
  rw [h a ha, h b hb]
  by_cases hab : a < b
  · rw [if_pos hab, decide_eq_true (by omega)]; rfl
  · rw [if_neg hab, decide_eq_false (by omega)]; rfl

/-- Byte `b` of a word, shifted up and arithmetically down. -/
theorem byte_bits (w : BitVec 32) (b : ℕ) (hb : b < 4) :
    IntOp.shrsi ArithUnit.vector (IntOp.shli ArithUnit.vector w (BitVec.ofNat 32 (24 - 8 * b))) 24#32
      = ((w >>> (8 * b)).setWidth 8).signExtend 32 := by
  have hs : (BitVec.ofNat 32 (24 - 8 * b)).toNat = 24 - 8 * b := by
    rw [BitVec.toNat_ofNat]; omega
  unfold IntOp.shrsi IntOp.shli
  rw [if_pos (by decide), if_pos (by rw [hs]; omega)]
  show (w <<< (BitVec.ofNat 32 (24 - 8 * b)).toNat).sshiftRight 24 = _
  rw [hs]
  apply BitVec.eq_of_getLsbD_eq
  intro q hq
  rw [BitVec.getLsbD_sshiftRight, BitVec.getLsbD_signExtend, BitVec.msb_eq_getLsbD_last, BitVec.msb_eq_getLsbD_last,
    BitVec.getLsbD_shiftLeft, BitVec.getLsbD_shiftLeft, BitVec.getLsbD_setWidth, BitVec.getLsbD_setWidth,
    BitVec.getLsbD_ushiftRight, BitVec.getLsbD_ushiftRight]
  have a1 : decide (32 ≤ q) = false := decide_eq_false (by omega)
  have a2 : decide (q < 32) = true := decide_eq_true hq
  rw [a1, a2]
  by_cases h8 : q < 8
  · rw [if_pos (by omega), if_pos h8]
    have b1 : decide (24 + q < 32) = true := decide_eq_true (by omega)
    have b2 : decide (24 + q < 24 - 8 * b) = false := decide_eq_false (by omega)
    have b3 : decide (q < 8) = true := decide_eq_true h8
    have b4 : 24 + q - (24 - 8 * b) = 8 * b + q := by omega
    rw [b1, b2, b3, b4]
    rfl
  · rw [if_neg (by omega), if_neg h8]
    have b2 : decide (32 - 1 < 24 - 8 * b) = false := decide_eq_false (by omega)
    have b4 : 32 - 1 - (24 - 8 * b) = 8 * b + (8 - 1) := by omega
    rw [b2, b4]
    rfl

variable {F : FTy → Type} [FloatOps F]

/-- Byte `2p+e` of the word of row `r`. -/
theorem words8_byte (X : Vec F S256x102 .i8) (o : ℕ) (ho : o + 16 ≤ 102) (h : S102x128.Slices ![o, 0] S16x128)
    (r : Fin 8) (l : Fin 128) (e p : Fin 2) :
    ((words8 (codesT X) o h (ix2 r l)) >>> (8 * (2 * p.val + e.val))).setWidth 8
      = X (ix2 ⟨2 * l.val + e.val, by omega⟩ ⟨o + 2 * r.val + p.val, by omega⟩) := by
  apply BitVec.eq_of_getLsbD_eq
  intro q hq
  have hl := l.isLt
  have hr := r.isLt
  rw [BitVec.getLsbD_setWidth, BitVec.getLsbD_ushiftRight, decide_eq_true hq, Bool.true_and]
  unfold words8
  refine (bitcast_bit _ _ (by omega) r l (8 * (2 * p.val + e.val) + q) (by omega) ⟨2 * r.val + p.val, by omega⟩
    (8 * e.val + q) (by dsimp only; omega) (by omega)).trans ?_
  unfold codesT
  pointwise
  refine (bitcast_bit _ _ (by omega) l ⟨o + (2 * r.val + p.val), by omega⟩ (8 * e.val + q) (by omega) ⟨l.val / 2, by omega⟩
    (16 * (l.val % 2) + (8 * e.val + q)) (by dsimp only; omega) (by omega)).trans ?_
  refine (bitcast_bit _ _ (by omega) ⟨l.val / 2, by omega⟩ ⟨o + (2 * r.val + p.val), by omega⟩ (16 * (l.val % 2) + (8 * e.val + q))
    (by omega) ⟨2 * l.val + e.val, by omega⟩ q (by dsimp only; omega) (by omega)).trans ?_
  simp only [Nat.add_assoc]

theorem words3_byte (X : Vec F S256x102 .i8) (r : Fin 3) (l : Fin 128) (e p : Fin 2) :
    ((words3 (codesT X) (ix2 r l)) >>> (8 * (2 * p.val + e.val))).setWidth 8
      = X (ix2 ⟨2 * l.val + e.val, by omega⟩ ⟨96 + 2 * r.val + p.val, by omega⟩) := by
  apply BitVec.eq_of_getLsbD_eq
  intro q hq
  have hl := l.isLt
  have hr := r.isLt
  rw [BitVec.getLsbD_setWidth, BitVec.getLsbD_ushiftRight, decide_eq_true hq, Bool.true_and]
  unfold words3
  refine (bitcast_bit _ _ (by omega) r l (8 * (2 * p.val + e.val) + q) (by omega) ⟨2 * r.val + p.val, by omega⟩
    (8 * e.val + q) (by dsimp only; omega) (by omega)).trans ?_
  unfold codesT
  pointwise
  refine (bitcast_bit _ _ (by omega) l ⟨96 + (2 * r.val + p.val), by omega⟩ (8 * e.val + q) (by omega) ⟨l.val / 2, by omega⟩
    (16 * (l.val % 2) + (8 * e.val + q)) (by dsimp only; omega) (by omega)).trans ?_
  refine (bitcast_bit _ _ (by omega) ⟨l.val / 2, by omega⟩ ⟨96 + (2 * r.val + p.val), by omega⟩ (16 * (l.val % 2) + (8 * e.val + q))
    (by omega) ⟨2 * l.val + e.val, by omega⟩ q (by dsimp only; omega) (by omega)).trans ?_
  simp only [Nat.add_assoc]

/-! ## The scales -/

theorem scales_apply (r : Vec F S1x128 .f32) (ρ : Fin 8) (l : Fin 128) : scales r (ix2 ρ l) = r (ix2 0 l) := by
  unfold scales
  pointwise

theorem grp_apply (e : Fin 2) (r : Fin 8) (l : Fin 128) :
    grp (BitVec.ofNat 32 e.val) (ix2 r l) = BitVec.ofNat 32 ((2 * l.val + e.val) * 102 / 256) := by
  unfold grp rowOf lane
  pointwise
  exact grp_bits e l

theorem grpNext_apply (e : Fin 2) (r : Fin 8) (l : Fin 128) :
    grpNext (BitVec.ofNat 32 e.val) (ix2 r l) = BitVec.ofNat 32 (min ((2 * l.val + e.val) * 102 / 256 + 1) 101) := by
  unfold grpNext
  pointwise
  rw [grp_apply]
  exact next_bits e l

theorem bound_apply (e : Fin 2) (r : Fin 8) (l : Fin 128) :
    bound (BitVec.ofNat 32 e.val) (ix2 r l)
      = BitVec.ofNat 32 (256 * ((2 * l.val + e.val) * 102 / 256 + 1) - 102 * (2 * l.val + e.val)) := by
  unfold bound rowOf lane
  pointwise
  rw [grp_apply]
  exact bound_bits e l

theorem pick_apply (s : Vec F S1x128 .f32) (g : IVec S8x128 32) (r : Fin 8) (l : Fin 128) (n : ℕ) (hn : n < 128)
    (hg : g (ix2 r l) = BitVec.ofNat 32 n) : pick (scales s) g (ix2 r l) = s (ix2 0 ⟨n, hn⟩) := by
  unfold pick
  pointwise
  rw [scales_apply]
  congr 2
  apply Fin.ext
  dsimp only
  rw [hg, BitVec.toNat_ofNat]
  omega

/-- The scale of a row and block: this row's first group's, or the next one's past the bound. -/
theorem scale_apply (s : Vec F S1x128 .f32) (e p : Fin 2) (t : Fin 7) (r : Fin 8) (l : Fin 128) (hb : 16 * t.val + 2 * r.val + p.val < 102) :
    Scalar.select (IntOp.cmpi CmpIPredicate.slt
        (IntOp.addi (IntOp.addi (BitVec.ofNat 32 (16 * t.val)) (IntOp.muli (2#32) (BitVec.ofNat 32 r.val))) (BitVec.ofNat 32 p.val))
        (bound (BitVec.ofNat 32 e.val) (ix2 r l)))
      (pick (scales s) (grp (BitVec.ofNat 32 e.val)) (ix2 r l)) (pick (scales s) (grpNext (BitVec.ofNat 32 e.val)) (ix2 r l))
      = s (ix2 0 ⟨(102 * (2 * l.val + e.val) + (16 * t.val + 2 * r.val + p.val)) / 256, by omega⟩) := by
  have hl := l.isLt
  have he := e.isLt
  rw [bound_apply, blk_bits, slt_bits _ _ (by omega) (by omega), pick_apply s _ r l _ (by omega) (grp_apply e r l),
    pick_apply s _ r l _ (by omega) (grpNext_apply e r l)]
  split
  · show s _ = _
    congr 2
    apply Fin.ext
    dsimp only
    omega
  · show s _ = _
    congr 2
    apply Fin.ext
    dsimp only
    omega

/-! ## A tile -/

/-- A code as a number. -/
theorem code_apply (w : BitVec 32) (b : ℕ) (hb : b < 4) (x : BitVec 8) (hx : (w >>> (8 * b)).setWidth 8 = x) :
    FloatOps.sitofp (F := Ideal) .f32 (IntOp.shrsi ArithUnit.vector (IntOp.shli ArithUnit.vector w (BitVec.ofNat 32 (24 - 8 * b))) 24#32)
      = FloatOps.sitofp (F := Ideal) .f32 x := by
  rw [byte_bits w b hb, hx]
  show ((((BitVec.signExtend 32 x).toInt : ℤ) : ℝ) : EReal) = (((x.toInt : ℤ) : ℝ) : EReal)
  rw [BitVec.toInt_signExtend_of_le (by decide)]

/-- The absmax of row `ρ` of a strip and block `k`. -/
def amv (X : Vec Ideal S256x102 .i8) (s : Vec Ideal S1x128 .f32) (off : EReal) (ρ k : ℕ) : EReal :=
  FloatOps.sitofp (F := Ideal) .f32 (X (ix2 (Fin.ofNat 256 ρ) (Fin.ofNat 102 k)))
    * s (ix2 0 (Fin.ofNat 128 ((102 * ρ + k) / 256))) + off

theorem amv_at (X : Vec Ideal S256x102 .i8) (s : Vec Ideal S1x128 .f32) (off : EReal) (ρ k : ℕ) (hρ : ρ < 256) (hk : k < 102) (h) :
    amv X s off ρ k = FloatOps.sitofp (F := Ideal) .f32 (X (ix2 ⟨ρ, hρ⟩ ⟨k, hk⟩)) * s (ix2 0 ⟨(102 * ρ + k) / 256, h⟩) + off := by
  unfold amv
  have e1 : (Fin.ofNat 256 ρ) = ⟨ρ, hρ⟩ := Fin.ext (Nat.mod_eq_of_lt hρ)
  have e2 : (Fin.ofNat 102 k) = ⟨k, hk⟩ := Fin.ext (Nat.mod_eq_of_lt hk)
  have e3 : (Fin.ofNat 128 ((102 * ρ + k) / 256)) = ⟨(102 * ρ + k) / 256, h⟩ := Fin.ext (Nat.mod_eq_of_lt h)
  rw [e1, e2, e3]

theorem tile8_apply (X : Vec Ideal S256x102 .i8) (s : Vec Ideal S1x128 .f32) (off : Elt Ideal .f32) (e p : Fin 2) (t : Fin 6)
    (r : Fin 8) (l : Fin 128) :
    tile8 (words8 (codesT X) (16 * t.val) (slices16 t)) (scales s) off (BitVec.ofNat 32 (24 - 8 * (2 * p.val + e.val)))
      (BitVec.ofNat 32 e.val) (BitVec.ofNat 32 (16 * t.val)) (BitVec.ofNat 32 p.val) (ix2 r l)
      = amv X s off (2 * l.val + e.val) (2 * (8 * t.val + r.val) + p.val) := by
  have hl := l.isLt
  have he := e.isLt
  have hb : 16 * t.val + 2 * r.val + p.val < 102 := by omega
  unfold tile8 sub
  pointwise
  rw [code_apply _ _ (by omega) _ (words8_byte X (16 * t.val) (by omega) (slices16 t) r l e p),
    scale_apply s e p ⟨t.val, by omega⟩ r l hb, amv_at X s off _ _ (by omega) (by omega) (by omega)]
  have e1 : 2 * (8 * t.val + r.val) + p.val = 16 * t.val + 2 * r.val + p.val := by omega
  simp only [e1]

theorem tile3_apply (X : Vec Ideal S256x102 .i8) (s : Vec Ideal S1x128 .f32) (off : Elt Ideal .f32) (e p : Fin 2)
    (r : Fin 3) (l : Fin 128) :
    tile3 (words3 (codesT X)) (scales s) off (BitVec.ofNat 32 (24 - 8 * (2 * p.val + e.val)))
      (BitVec.ofNat 32 e.val) 96#32 (BitVec.ofNat 32 p.val) (ix2 r l)
      = amv X s off (2 * l.val + e.val) (2 * (48 + r.val) + p.val) := by
  have hl := l.isLt
  have he := e.isLt
  have hb : 16 * 6 + 2 * r.val + p.val < 102 := by omega
  unfold tile3 sub
  pointwise
  rw [code_apply _ _ (by omega) _ (words3_byte X r l e p), amv_at X s off _ _ (by omega) (by omega) (by omega)]
  have e1 : 2 * (48 + r.val) + p.val = 96 + 2 * r.val + p.val := by omega
  simp only [e1]
  congr 2
  exact scale_apply s e p 6 ⟨r.val, by omega⟩ l hb

theorem twice8_apply (f : FVec Ideal S8x128 .f32) (r : Fin 8) (k : Fin 2) (l : Fin 128) : twice8 f (ix6 0 0 0 r k l) = f (ix2 r l) := by
  unfold twice8
  pointwise
  exact ite_self _

theorem twice3_apply (f : FVec Ideal S3x128 .f32) (r : Fin 3) (k : Fin 2) (l : Fin 128) : twice3 f (ix6 0 0 0 r k l) = f (ix2 r l) := by
  unfold twice3
  pointwise
  exact ite_self _

end Cert.KernelIdeal.Absmax
-- ==== Proof.Tile.lean ====
/- ONE TILE of the kernel's dequantised right-hand side: sixteen packed bytes of a row of weights, one nibble of each,
   looked up in the two byte tables, joined to sixteen-bit levels and multiplied by the row's absmax. The definitions
   are the kernel's own operations in the kernel's order; the theorems say what they hold at an index. -/
module

public import proofs.«01_k».proof.Proof.Gen.KernelIdeal.Skeleton
public import proofs.«01_k».proof.Proof.Bytes

@[expose] public section

set_option maxRecDepth 16384

noncomputable section

namespace Cert.KernelIdeal.Tile

open Idealize.ShloMosaic Idealize.SL.Sem Cert.KernelIdeal.Gen Cert.Bytes

variable {F : FTy → Type} [FloatOps F]

/-! ## The operations -/

/-- The high nibble of every byte of the words. -/
def hiNib (v : IVec S8x128 32) : IVec S32x128 8 :=
  bitcast S32x128 8 (andi (shrui v (broadcast S8x128 4#32)) (broadcast S8x128 252645135#32)) bitcasts_S8x128_w32_S32x128_w8

/-- The low nibble of every byte of the words. -/
def loNib (v : IVec S8x128 32) : IVec S32x128 8 :=
  bitcast S32x128 8 (andi v (broadcast S8x128 252645135#32)) bitcasts_S8x128_w32_S32x128_w8

/-- The table's byte at each index, along the lanes. -/
def look (tab : IVec S32x128 32) (idx : IVec S32x128 8) : IVec S32x128 8 :=
  trunci 8 (dynamicGather 1 tab (shapeCast S32x128 (shapeCast S32x128x1 (extui 32 idx natLt_8_32)
    shapeCasts_S32x128_S32x128x1) shapeCasts_S32x128x1_S32x128)) natLt_8_32

/-- Rows of bytes as rows of half words. -/
def halves (x : IVec S32x128 8) : IVec S16x128 16 :=
  bitcast S16x128 16 (bitcast S8x128 32 x bitcasts_S32x128_w8_S8x128_w32) bitcasts_S8x128_w32_S16x128_w16

/-- The levels of the even byte rows: low byte from one table, high byte from the other. -/
def evenBits (glo ghi : IVec S32x128 8) : IVec S16x128 16 :=
  ori (andi (halves glo) (broadcast S16x128 255#16)) (shli (halves ghi) (broadcast S16x128 8#16))

/-- The levels of the odd byte rows, `ev` marking the even rows. -/
def oddBits (ev : IVec S32x128 1) (glo ghi : IVec S32x128 8) : IVec S16x128 16 :=
  halves (select ev (bitcast S32x128 8 (shrui (bitcast S8x128 32 glo bitcasts_S32x128_w8_S8x128_w32)
    (broadcast S8x128 8#32)) bitcasts_S8x128_w32_S32x128_w8) ghi)

/-- A tile of the even output columns. -/
def tileE (tl th : IVec S32x128 32) (idx : IVec S32x128 8) (a : FVec F S16x128 .bf16) : FVec F S16x128 .bf16 :=
  mulf (bitcastToFloat .bf16 (evenBits (look tl idx) (look th idx))) a

/-- A tile of the odd output columns. -/
def tileO (ev : IVec S32x128 1) (tl th : IVec S32x128 32) (idx : IVec S32x128 8) (a : FVec F S16x128 .bf16) :
    FVec F S16x128 .bf16 :=
  mulf (bitcastToFloat .bf16 (oddBits ev (look tl idx) (look th idx))) a

/-- Sixteen rows of half words as words. -/
def wordsOf (y : IVec S16x128 16) : IVec S8x128 32 := bitcast S8x128 32 y bitcasts_S16x128_w16_S8x128_w32

/-- A chunk's packed bytes, rows paired into half words, transposed. -/
def wT (X : Vec F S256x128 .i8) : IVec S128x128 16 :=
  transpose S128x128 [1, 0] (bitcast S128x128 16 (bitcast S64x128 32 X bitcasts_S256x128_w8_S64x128_w32)
    bitcasts_S64x128_w32_S128x128_w16) transposes_S128x128_p1_0_S128x128

/-- The same of the last, half as long, chunk. -/
def wTt (X : Vec F S256x64 .i8) : IVec S64x128 16 :=
  transpose S64x128 [1, 0] (bitcast S128x64 16 (bitcast S64x64 32 X bitcasts_S256x64_w8_S64x64_w32)
    bitcasts_S64x64_w32_S128x64_w16) transposes_S128x64_p1_0_S64x128

/-! ## What they hold -/

/-- The mask keeps the low nibble of each byte. -/
theorem mask_bit (p : ℕ) : (252645135#32 : BitVec 32).getLsbD p = decide (p < 32 ∧ p % 8 < 4) := by
  by_cases hp : p < 32
  · interval_cases p <;> rfl
  · rw [BitVec.getLsbD_of_ge _ p (by omega)]; simp [hp]

theorem hiNib_apply (v : IVec S8x128 32) (ρ : Fin 32) (l : Fin 128) :
    hiNib v (ix2 ρ l) = (bitcast S32x128 8 v bitcasts_S8x128_w32_S32x128_w8 (ix2 ρ l)) >>> 4 := by
  apply BitVec.eq_of_getLsbD_eq
  intro q hq
  have hρ := ρ.isLt
  have h1 : ρ.val * 8 + q = (ρ.val / 4) * 32 + (8 * (ρ.val % 4) + q) := by omega
  unfold hiNib
  erw [bitcast_bit _ _ (by omega) ρ l q hq ⟨ρ.val / 4, by omega⟩ (8 * (ρ.val % 4) + q) h1 (by omega)]
  rw [BitVec.getLsbD_ushiftRight]
  pointwise
  show ((v _ >>> (4#32).toNat) &&& 252645135#32).getLsbD _ = _
  rw [BitVec.getLsbD_and, mask_bit, BitVec.getLsbD_ushiftRight]
  by_cases h4 : q < 4
  · have h2 : ρ.val * 8 + (4 + q) = (ρ.val / 4) * 32 + (8 * (ρ.val % 4) + (4 + q)) := by omega
    erw [bitcast_bit _ _ (by omega) ρ l (4 + q) (by omega) ⟨ρ.val / 4, by omega⟩ (8 * (ρ.val % 4) + (4 + q)) h2 (by omega)]
    have h3 : (8 * (ρ.val % 4) + q < 32 ∧ (8 * (ρ.val % 4) + q) % 8 < 4) := by omega
    have h5 : (4#32).toNat + (8 * (ρ.val % 4) + q) = 8 * (ρ.val % 4) + (4 + q) := by
      show 4 + _ = _; omega
    rw [h5, decide_eq_true h3, Bool.and_true]
  · have h3 : ¬ (8 * (ρ.val % 4) + q < 32 ∧ (8 * (ρ.val % 4) + q) % 8 < 4) := by omega
    rw [decide_eq_false h3, Bool.and_false, BitVec.getLsbD_of_ge _ _ (by omega)]

theorem loNib_apply (v : IVec S8x128 32) (ρ : Fin 32) (l : Fin 128) :
    loNib v (ix2 ρ l) = (bitcast S32x128 8 v bitcasts_S8x128_w32_S32x128_w8 (ix2 ρ l)) &&& 15#8 := by
  apply BitVec.eq_of_getLsbD_eq
  intro q hq
  have hρ := ρ.isLt
  have h1 : ρ.val * 8 + q = (ρ.val / 4) * 32 + (8 * (ρ.val % 4) + q) := by omega
  unfold loNib
  erw [bitcast_bit _ _ (by omega) ρ l q hq ⟨ρ.val / 4, by omega⟩ (8 * (ρ.val % 4) + q) h1 (by omega)]
  rw [BitVec.getLsbD_and]
  erw [bitcast_bit _ _ (by omega) ρ l q hq ⟨ρ.val / 4, by omega⟩ (8 * (ρ.val % 4) + q) h1 (by omega)]
  pointwise
  show (v _ &&& 252645135#32).getLsbD _ = _
  rw [BitVec.getLsbD_and, mask_bit]
  congr 1
  have : (15#8 : BitVec 8).getLsbD q = decide (q < 4) := by
    interval_cases q <;> rfl
  rw [this]
  exact decide_eq_decide.mpr (by omega)

theorem look_apply (tab : IVec S32x128 32) (idx : IVec S32x128 8) (ρ : Fin 32) (l : Fin 128) :
    look tab idx (ix2 ρ l) = (tab (ix2 ρ ⟨(idx (ix2 ρ l)).toNat % 128, Nat.mod_lt _ (by decide)⟩)).setWidth 8 := by
  unfold look
  pointwise
  show (tab (ix2 ρ ⟨((idx (ix2 ρ l)).setWidth 32).toNat % 128, _⟩)).setWidth 8 = _
  congr 4

/-- Half word `r` holds byte rows `2 r` (low) and `2 r + 1` (high). -/
theorem halves_bit (x : IVec S32x128 8) (r : Fin 16) (l : Fin 128) (q : ℕ) (hq : q < 16) :
    (halves x (ix2 r l)).getLsbD q = (x (ix2 ⟨2 * r.val + q / 8, by omega⟩ l)).getLsbD (q % 8) := by
  have hr := r.isLt
  unfold halves
  erw [bitcast_bit _ _ (by omega) r l q hq ⟨r.val / 2, by omega⟩ (16 * (r.val % 2) + q) (by dsimp only; omega) (by omega)]
  exact bitcast_bit _ _ (by omega) ⟨r.val / 2, by omega⟩ l (16 * (r.val % 2) + q) (by omega) ⟨2 * r.val + q / 8, by omega⟩ (q % 8)
    (by dsimp only; omega) (by omega)

theorem byte255_bit (q : ℕ) : (255#16 : BitVec 16).getLsbD q = decide (q < 8) := by
  by_cases hq : q < 16
  · interval_cases q <;> rfl
  · rw [BitVec.getLsbD_of_ge _ q (by omega)]; simp; omega

theorem evenBits_apply (glo ghi : IVec S32x128 8) (r : Fin 16) (l : Fin 128) :
    evenBits glo ghi (ix2 r l)
      = (ghi (ix2 ⟨2 * r.val, by omega⟩ l) ++ glo (ix2 ⟨2 * r.val, by omega⟩ l) : BitVec 16) := by
  apply BitVec.eq_of_getLsbD_eq
  intro q hq
  unfold evenBits
  pointwise
  show ((halves glo (ix2 r l) &&& 255#16) ||| (halves ghi (ix2 r l) <<< (8#16).toNat)).getLsbD q = _
  rw [BitVec.getLsbD_or, BitVec.getLsbD_and, BitVec.getLsbD_shiftLeft, byte255_bit, BitVec.getLsbD_append]
  have e8 : (8#16 : BitVec 16).toNat = 8 := rfl
  rw [e8]
  by_cases h : q < 8
  · have e : (⟨2 * r.val + q / 8, by omega⟩ : Fin 32) = ⟨2 * r.val, by omega⟩ := Fin.ext (by dsimp only; omega)
    have e' : q % 8 = q := by omega
    rw [halves_bit _ _ _ _ (by omega), e, e']
    simp [h]
  · have hq' : q - 8 < 16 := by omega
    have e : (⟨2 * r.val + (q - 8) / 8, by omega⟩ : Fin 32) = ⟨2 * r.val, by omega⟩ := Fin.ext (by dsimp only; omega)
    have e' : (q - 8) % 8 = q - 8 := by omega
    rw [halves_bit ghi _ _ (q - 8) (by omega), e, e']
    simp [h, hq]

/-- The bytes moved one row down within each word. -/
def down (x : IVec S32x128 8) : IVec S32x128 8 :=
  bitcast S32x128 8 (shrui (bitcast S8x128 32 x bitcasts_S32x128_w8_S8x128_w32) (broadcast S8x128 8#32))
    bitcasts_S8x128_w32_S32x128_w8

theorem down_apply (x : IVec S32x128 8) (r : Fin 16) (l : Fin 128) :
    down x (ix2 ⟨2 * r.val, by omega⟩ l) = x (ix2 ⟨2 * r.val + 1, by omega⟩ l) := by
  apply BitVec.eq_of_getLsbD_eq
  intro q hq
  have hr := r.isLt
  unfold down
  refine (bitcast_bit _ _ (by omega) ⟨2 * r.val, by omega⟩ l q hq ⟨r.val / 2, by omega⟩
      (16 * (r.val % 2) + q) (by dsimp only; omega) (by omega)).trans ?_
  pointwise
  unfold IntOp.shrui
  rw [if_pos (by decide), BitVec.ushiftRight_eq', BitVec.getLsbD_ushiftRight, show (8#32 : BitVec 32).toNat = 8 from rfl]
  exact bitcast_bit _ _ (by omega) ⟨r.val / 2, by omega⟩ l (8 + (16 * (r.val % 2) + q))
      (by omega) ⟨2 * r.val + 1, by omega⟩ q
      (by dsimp only; omega) (by omega)

theorem oddBits_apply (ev : IVec S32x128 1) (glo ghi : IVec S32x128 8)
    (hev : ∀ (ρ : Fin 32) (l : Fin 128), ev (ix2 ρ l) = if ρ.val % 2 = 0 then 1#1 else 0#1) (r : Fin 16) (l : Fin 128) :
    oddBits ev glo ghi (ix2 r l)
      = (ghi (ix2 ⟨2 * r.val + 1, by omega⟩ l) ++ glo (ix2 ⟨2 * r.val + 1, by omega⟩ l) : BitVec 16) := by
  apply BitVec.eq_of_getLsbD_eq
  intro q hq
  have hr := r.isLt
  change (halves (select ev (down glo) ghi) (ix2 r l)).getLsbD q = _
  rw [halves_bit _ _ _ _ hq, BitVec.getLsbD_append]
  pointwise
  rw [hev]
  by_cases h : q < 8
  · have e : (⟨2 * r.val + q / 8, by omega⟩ : Fin 32) = ⟨2 * r.val, by omega⟩ := Fin.ext (by dsimp only; omega)
    have e' : q % 8 = q := by omega
    rw [e, e', down_apply]
    simp [h, Scalar.select]
  · have c : ¬ (2 * r.val + q / 8) % 2 = 0 := by omega
    have e : (⟨2 * r.val + q / 8, by omega⟩ : Fin 32) = ⟨2 * r.val + 1, by omega⟩ := Fin.ext (by dsimp only; omega)
    have e' : q % 8 = q - 8 := by omega
    rw [e, e', if_neg (by dsimp only; omega)]
    simp [h, Scalar.select]

/-- Byte row `ρ` of the words of sixteen rows of `wT X` is row `2 l + ρ % 2` of the chunk, at its column. -/
theorem word_byte (X : Vec F S256x128 .i8) (o : ℕ) (ho : o + 16 ≤ 128) (h : S128x128.Slices ![o, 0] S16x128)
    (ρ : Fin 32) (l : Fin 128) :
    bitcast S32x128 8 (wordsOf (extractStridedSlice S16x128 ![o, 0] (wT X) h)) bitcasts_S8x128_w32_S32x128_w8 (ix2 ρ l)
      = X (ix2 ⟨2 * l.val + ρ.val % 2, by omega⟩ ⟨o + ρ.val / 2, by omega⟩) := by
  apply BitVec.eq_of_getLsbD_eq
  intro q hq
  have hρ := ρ.isLt
  have hl := l.isLt
  erw [bitcast_bit _ _ (by omega) ρ l q hq ⟨ρ.val / 4, by omega⟩ (8 * (ρ.val % 4) + q) (by dsimp only; omega) (by omega)]
  unfold wordsOf
  erw [bitcast_bit _ _ (by omega) ⟨ρ.val / 4, by omega⟩ l (8 * (ρ.val % 4) + q) (by omega) ⟨ρ.val / 2, by omega⟩
    (8 * (ρ.val % 2) + q) (by dsimp only; omega) (by omega)]
  unfold wT
  pointwise
  erw [bitcast_bit _ _ (by omega) l ⟨o + ρ.val / 2, by omega⟩ (8 * (ρ.val % 2) + q) (by omega) ⟨l.val / 2, by omega⟩
    (16 * (l.val % 2) + (8 * (ρ.val % 2) + q)) (by dsimp only; omega) (by omega)]
  exact bitcast_bit _ _ (by omega) ⟨l.val / 2, by omega⟩ ⟨o + ρ.val / 2, by omega⟩ (16 * (l.val % 2) + (8 * (ρ.val % 2) + q))
    (by omega) ⟨2 * l.val + ρ.val % 2, by omega⟩ q (by dsimp only; omega) (by omega)

/-- The same of the half-long chunk. -/
theorem word_byte_t (X : Vec F S256x64 .i8) (o : ℕ) (ho : o + 16 ≤ 64) (h : S64x128.Slices ![o, 0] S16x128)
    (ρ : Fin 32) (l : Fin 128) :
    bitcast S32x128 8 (wordsOf (extractStridedSlice S16x128 ![o, 0] (wTt X) h)) bitcasts_S8x128_w32_S32x128_w8 (ix2 ρ l)
      = X (ix2 ⟨2 * l.val + ρ.val % 2, by omega⟩ ⟨o + ρ.val / 2, by omega⟩) := by
  apply BitVec.eq_of_getLsbD_eq
  intro q hq
  have hρ := ρ.isLt
  have hl := l.isLt
  erw [bitcast_bit _ _ (by omega) ρ l q hq ⟨ρ.val / 4, by omega⟩ (8 * (ρ.val % 4) + q) (by dsimp only; omega) (by omega)]
  unfold wordsOf
  erw [bitcast_bit _ _ (by omega) ⟨ρ.val / 4, by omega⟩ l (8 * (ρ.val % 4) + q) (by omega) ⟨ρ.val / 2, by omega⟩
    (8 * (ρ.val % 2) + q) (by dsimp only; omega) (by omega)]
  unfold wTt
  pointwise
  erw [bitcast_bit _ _ (by omega) l ⟨o + ρ.val / 2, by omega⟩ (8 * (ρ.val % 2) + q) (by omega) ⟨l.val / 2, by omega⟩
    (16 * (l.val % 2) + (8 * (ρ.val % 2) + q)) (by dsimp only; omega) (by omega)]
  exact bitcast_bit _ _ (by omega) ⟨l.val / 2, by omega⟩ ⟨o + ρ.val / 2, by omega⟩ (16 * (l.val % 2) + (8 * (ρ.val % 2) + q))
    (by omega) ⟨2 * l.val + ρ.val % 2, by omega⟩ q (by dsimp only; omega) (by omega)

/-! ## The levels -/

/-- The sixteen levels, as bit patterns. -/
def lv (b : BitVec 8) : BitVec 16 :=
  (![0xBF80#16, 0xBF32#16, 0xBF06#16, 0xBECA#16, 0xBE92#16, 0xBE3D#16, 0xBDBA#16, 0x0000#16,
    0x3DA3#16, 0x3E25#16, 0x3E7C#16, 0x3EAD#16, 0x3EE2#16, 0x3F10#16, 0x3F39#16, 0x3F80#16] : Fin 16 → BitVec 16)
    ⟨b.toNat % 16, Nat.mod_lt _ (by decide)⟩

/-- The two tables hold the levels' low and high bytes, sixteen lanes at a time. -/
structure Tables (tl th : IVec S32x128 32) : Prop where
  lo : ∀ (ρ : Fin 32) (j : Fin 128), (tl (ix2 ρ j)).setWidth 8 = (lv (BitVec.ofNat 8 j.val)).setWidth 8
  hi : ∀ (ρ : Fin 32) (j : Fin 128), (th (ix2 ρ j)).setWidth 8 = (lv (BitVec.ofNat 8 j.val) >>> 8).setWidth 8

theorem join_bytes (x : BitVec 16) : ((x >>> 8).setWidth 8 ++ x.setWidth 8 : BitVec 16) = x := by
  apply BitVec.eq_of_getLsbD_eq
  intro q hq
  rw [BitVec.getLsbD_append]
  by_cases h : q < 8
  · simp [h]
  · have : q - 8 < 8 := by omega
    have e : 8 + (q - 8) = q := by omega
    simp [h, this, e]

theorem lv_mod (b : BitVec 8) : lv (BitVec.ofNat 8 (b.toNat % 128)) = lv b := by
  unfold lv
  congr 1
  apply Fin.ext
  simp only [BitVec.toNat_ofNat]
  omega

variable {tl th : IVec S32x128 32}

theorem look_join (T : Tables tl th) (idx : IVec S32x128 8) (ρ : Fin 32) (l : Fin 128) :
    (look th idx (ix2 ρ l) ++ look tl idx (ix2 ρ l) : BitVec 16) = lv (idx (ix2 ρ l)) := by
  rw [look_apply, look_apply, T.lo, T.hi, join_bytes, lv_mod]

/-- An even-column tile at an index: the level of its nibble times the absmax there. -/
theorem tileE_apply (T : Tables tl th) (idx : IVec S32x128 8) (a : FVec Ideal S16x128 .bf16) (r : Fin 16) (l : Fin 128) :
    tileE tl th idx a (ix2 r l)
      = Ideal.ofBits .bf16 (lv (idx (ix2 ⟨2 * r.val, by omega⟩ l))) * a (ix2 r l) := by
  unfold tileE
  show Ideal.ofBits .bf16 (evenBits _ _ (ix2 r l)) * _ = _
  rw [evenBits_apply, look_join T]

/-- An odd-column tile at an index. -/
theorem tileO_apply (T : Tables tl th) {ev : IVec S32x128 1}
    (hev : ∀ (ρ : Fin 32) (l : Fin 128), ev (ix2 ρ l) = if ρ.val % 2 = 0 then 1#1 else 0#1)
    (idx : IVec S32x128 8) (a : FVec Ideal S16x128 .bf16) (r : Fin 16) (l : Fin 128) :
    tileO ev tl th idx a (ix2 r l)
      = Ideal.ofBits .bf16 (lv (idx (ix2 ⟨2 * r.val + 1, by omega⟩ l))) * a (ix2 r l) := by
  unfold tileO
  show Ideal.ofBits .bf16 (oddBits _ _ _ (ix2 r l)) * _ = _
  rw [oddBits_apply _ _ _ hev, look_join T]

end Cert.KernelIdeal.Tile
-- ==== Proof.Chunk.lean ====
/- ONE CHUNK of the kernel's right-hand side: the sixteen tiles of 128 packed columns, stacked: eight of high nibbles
   over eight of low ones. Each turn of the kernel's two loops adds such a chunk's product; the chunk as a definition,
   what it holds at an index, and the two loops' turns as that. -/
module

public import proofs.«01_k».proof.Proof.Gen.KernelIdeal.Loops
public import proofs.«01_k».proof.Proof.Tile

@[expose] public section

set_option maxRecDepth 16384

noncomputable section

namespace Cert.KernelIdeal.Tile

open Idealize.ShloMosaic Idealize.SL.Sem Cert.KernelIdeal.Gen

variable {F : FTy → Type} [FloatOps F]

/-- A row of absmaxes as it is read back from the scratch (each value twice), broadcast to a tile. -/
def amRow (r : Vec F S1x1x1x1x2x128 .bf16) : FVec F S16x128 .bf16 :=
  broadcastTo S16x128 (shapeCast S1x128 (extractStridedSlice S1x128 ![0, 0]
    (interleaveRows S2x128
      (shapeCast S1x128 (shapeCast S1x1x1x1x128 (rowsOfParity 0 S1x1x1x1x1x128 r bitcasts_S1x1x1x1x2x128_w16_S1x1x1x1x1x128_w32)
        shapeCasts_S1x1x1x1x1x128_S1x1x1x1x128) shapeCasts_S1x1x1x1x128_S1x128)
      (shapeCast S1x128 (shapeCast S1x1x1x1x128 (rowsOfParity 1 S1x1x1x1x1x128 r bitcasts_S1x1x1x1x2x128_w16_S1x1x1x1x1x128_w32)
        shapeCasts_S1x1x1x1x1x128_S1x1x1x1x128) shapeCasts_S1x1x1x1x128_S1x128)
      bitcasts_S2x128_w16_S1x128_w32) slices_S2x128_o0_0_S1x128) shapeCasts_S1x128_S1x128) broadcasts_S1x128_S16x128

/-- Words `t` of a chunk. -/
def wd (y : IVec S128x128 16) (o : ℕ) (h : S128x128.Slices ![o, 0] S16x128) : IVec S8x128 32 :=
  wordsOf (extractStridedSlice S16x128 ![o, 0] y h)

/-- Words `t` of the half-long chunk. -/
def wdt (y : IVec S64x128 16) (o : ℕ) (h : S64x128.Slices ![o, 0] S16x128) : IVec S8x128 32 :=
  wordsOf (extractStridedSlice S16x128 ![o, 0] y h)

/-- Sixteen tiles stacked. -/
def stack (f0 f1 f2 f3 f4 f5 f6 f7 f8 f9 f10 f11 f12 f13 f14 f15 : FVec F S16x128 .bf16) : FVec F S256x128 .bf16 :=
  concatenate S256x128 0 [⟨S16x128, f0⟩, ⟨S16x128, f1⟩, ⟨S16x128, f2⟩, ⟨S16x128, f3⟩, ⟨S16x128, f4⟩, ⟨S16x128, f5⟩,
    ⟨S16x128, f6⟩, ⟨S16x128, f7⟩, ⟨S16x128, f8⟩, ⟨S16x128, f9⟩, ⟨S16x128, f10⟩, ⟨S16x128, f11⟩, ⟨S16x128, f12⟩,
    ⟨S16x128, f13⟩, ⟨S16x128, f14⟩, ⟨S16x128, f15⟩]
    concatenates_S16x128_S16x128_S16x128_S16x128_S16x128_S16x128_S16x128_S16x128_S16x128_S16x128_S16x128_S16x128_S16x128_S16x128_S16x128_S16x128_S256x128_d0

/-- The chunk, a tile function `g` given words and an absmax row. -/
def colsOf (g : IVec S32x128 8 → FVec F S16x128 .bf16 → FVec F S16x128 .bf16) (y : IVec S128x128 16)
    (r0 r1 r2 r3 : Vec F S1x1x1x1x2x128 .bf16) : FVec F S256x128 .bf16 :=
  stack
    (g (hiNib (wd y 0 slices_S128x128_o0_0_S16x128)) (amRow r0)) (g (hiNib (wd y 16 slices_S128x128_o16_0_S16x128)) (amRow r0))
    (g (hiNib (wd y 32 slices_S128x128_o32_0_S16x128)) (amRow r1)) (g (hiNib (wd y 48 slices_S128x128_o48_0_S16x128)) (amRow r1))
    (g (hiNib (wd y 64 slices_S128x128_o64_0_S16x128)) (amRow r2)) (g (hiNib (wd y 80 slices_S128x128_o80_0_S16x128)) (amRow r2))
    (g (hiNib (wd y 96 slices_S128x128_o96_0_S16x128)) (amRow r3)) (g (hiNib (wd y 112 slices_S128x128_o112_0_S16x128)) (amRow r3))
    (g (loNib (wd y 0 slices_S128x128_o0_0_S16x128)) (amRow r0)) (g (loNib (wd y 16 slices_S128x128_o16_0_S16x128)) (amRow r0))
    (g (loNib (wd y 32 slices_S128x128_o32_0_S16x128)) (amRow r1)) (g (loNib (wd y 48 slices_S128x128_o48_0_S16x128)) (amRow r1))
    (g (loNib (wd y 64 slices_S128x128_o64_0_S16x128)) (amRow r2)) (g (loNib (wd y 80 slices_S128x128_o80_0_S16x128)) (amRow r2))
    (g (loNib (wd y 96 slices_S128x128_o96_0_S16x128)) (amRow r3)) (g (loNib (wd y 112 slices_S128x128_o112_0_S16x128)) (amRow r3))

/-- A read of one absmax row of the scratch. -/
def rd (arg12 : Memref sig .tc .vmem S2x2x2x56x2x128 .bf16) (X : BufTy.Contents (Elt F) arg12.view.ty)
    (off : Fin 6 → ℕ) (h : ∀ a, off a + S1x1x1x1x2x128.size a ≤ S2x2x2x56x2x128.size a) : Vec F S1x1x1x1x2x128 .bf16 :=
  View.readAt (Elt F) arg12.view (Rect.unit (s := S2x2x2x56x2x128) off S1x1x1x1x2x128.size h).toLoadRect X

/-- A read of 256 rows of a chunk's packed bytes. -/
def rdw (arg1 : Memref sig .tc .vmem S512x3264 .i8) (X : BufTy.Contents (Elt F) arg1.view.ty)
    (off : Fin 2 → ℕ) (h : ∀ a, off a + S256x128.size a ≤ S512x3264.size a) : Vec F S256x128 .i8 :=
  View.readAt (Elt F) arg1.view (Rect.unit (s := S512x3264) off S256x128.size h).toLoadRect X

/-! ## What a chunk holds -/

theorem amRow_apply (r : Vec F S1x1x1x1x2x128 .bf16) (ρ : Fin 16) (l : Fin 128) :
    amRow r (ix2 ρ l) = r (ix6 0 0 0 0 0 l) := by
  unfold amRow
  pointwise

theorem stack_apply (f0 f1 f2 f3 f4 f5 f6 f7 f8 f9 f10 f11 f12 f13 f14 f15 : FVec F S16x128 .bf16)
    (n : Fin 16) (r : Fin 16) (l : Fin 128) :
    stack f0 f1 f2 f3 f4 f5 f6 f7 f8 f9 f10 f11 f12 f13 f14 f15 (ix2 ⟨16 * n.val + r.val, by omega⟩ l)
      = (![f0, f1, f2, f3, f4, f5, f6, f7, f8, f9, f10, f11, f12, f13, f14, f15] : Fin 16 → FVec F S16x128 .bf16) n (ix2 r l) := by
  refine concatenate_ofFn_apply (t := S256x128) (s₁ := S16x128) 0
    (![f0, f1, f2, f3, f4, f5, f6, f7, f8, f9, f10, f11, f12, f13, f14, f15] : Fin 16 → FVec F S16x128 .bf16)
    concatenates_S16x128_S16x128_S16x128_S16x128_S16x128_S16x128_S16x128_S16x128_S16x128_S16x128_S16x128_S16x128_S16x128_S16x128_S16x128_S16x128_S256x128_d0
    rfl 16 rfl (ix2 ⟨16 * n.val + r.val, by omega⟩ l) n ?_ (ix2 r l) ?_ ?_
  · show (16 * n.val + r.val) / 16 = n.val; omega
  · show r.val = (16 * n.val + r.val) % 16; omega
  · intro b hb
    match b with
    | ⟨0, _⟩ => exact absurd rfl hb
    | ⟨1, _⟩ => rfl

/-- The nibble of a byte that a chunk's row of half `h` uses. -/
def nib (h : ℕ) (b : BitVec 8) : BitVec 8 := if h = 0 then b >>> 4 else b &&& 15#8

section Cols
variable {tl th : IVec S32x128 32}

theorem colsE_apply (T : Tables tl th) (X : Vec Ideal S256x128 .i8) (r0 r1 r2 r3 : Vec Ideal S1x1x1x1x2x128 .bf16)
    (n : Fin 16) (r : Fin 16) (l : Fin 128) :
    colsOf (tileE tl th) (wT X) r0 r1 r2 r3 (ix2 ⟨16 * n.val + r.val, by omega⟩ l)
      = Ideal.ofBits .bf16 (lv (nib (n.val / 8) (X (ix2 ⟨2 * l.val, by omega⟩ ⟨16 * (n.val % 8) + r.val, by omega⟩))))
        * (![r0, r1, r2, r3] : Fin 4 → Vec Ideal S1x1x1x1x2x128 .bf16) ⟨(n.val % 8) / 2, by omega⟩ (ix6 0 0 0 0 0 l) := by
  unfold colsOf
  rw [stack_apply]
  have e : ∀ (o : ℕ) (ho : o + 16 ≤ 128) (h : S128x128.Slices ![o, 0] S16x128),
      bitcast S32x128 8 (wd (wT X) o h) bitcasts_S8x128_w32_S32x128_w8 (ix2 ⟨2 * r.val, by omega⟩ l)
        = X (ix2 ⟨2 * l.val, by omega⟩ ⟨o + r.val, by omega⟩) := by
    intro o ho h
    unfold wd
    rw [word_byte X o ho h]
    congr 1
    refine congrArg₂ ix2 (Fin.ext ?_) (Fin.ext ?_) <;> dsimp only <;> omega
  fin_cases n <;> refine (tileE_apply T _ _ r l).trans ?_ <;> rw [amRow_apply] <;> first
    | (rw [hiNib_apply, e _ (by omega)]; rfl)
    | (rw [loNib_apply, e _ (by omega)]; rfl)

theorem colsO_apply (T : Tables tl th) {ev : IVec S32x128 1}
    (hev : ∀ (ρ : Fin 32) (l : Fin 128), ev (ix2 ρ l) = if ρ.val % 2 = 0 then 1#1 else 0#1)
    (X : Vec Ideal S256x128 .i8) (r0 r1 r2 r3 : Vec Ideal S1x1x1x1x2x128 .bf16)
    (n : Fin 16) (r : Fin 16) (l : Fin 128) :
    colsOf (tileO ev tl th) (wT X) r0 r1 r2 r3 (ix2 ⟨16 * n.val + r.val, by omega⟩ l)
      = Ideal.ofBits .bf16 (lv (nib (n.val / 8) (X (ix2 ⟨2 * l.val + 1, by omega⟩ ⟨16 * (n.val % 8) + r.val, by omega⟩))))
        * (![r0, r1, r2, r3] : Fin 4 → Vec Ideal S1x1x1x1x2x128 .bf16) ⟨(n.val % 8) / 2, by omega⟩ (ix6 0 0 0 0 0 l) := by
  unfold colsOf
  rw [stack_apply]
  have e : ∀ (o : ℕ) (ho : o + 16 ≤ 128) (h : S128x128.Slices ![o, 0] S16x128),
      bitcast S32x128 8 (wd (wT X) o h) bitcasts_S8x128_w32_S32x128_w8 (ix2 ⟨2 * r.val + 1, by omega⟩ l)
        = X (ix2 ⟨2 * l.val + 1, by omega⟩ ⟨o + r.val, by omega⟩) := by
    intro o ho h
    unfold wd
    rw [word_byte X o ho h]
    congr 1
    refine congrArg₂ ix2 (Fin.ext ?_) (Fin.ext ?_) <;> dsimp only <;> omega
  fin_cases n <;> refine (tileO_apply T hev _ _ r l).trans ?_ <;> rw [amRow_apply] <;> first
    | (rw [hiNib_apply, e _ (by omega)]; rfl)
    | (rw [loNib_apply, e _ (by omega)]; rfl)

end Cols

section Trips
variable (arg1 : Memref sig .tc .vmem S512x3264 .i8) (arg12 : Memref sig .tc .vmem S2x2x2x56x2x128 .bf16)
  (tl th : IVec S32x128 32) (ev : IVec S32x128 1) (X1 : BufTy.Contents (Elt F) arg1.view.ty)
  (X12 : BufTy.Contents (Elt F) arg12.view.ty)

theorem t1_even (k : Fin k0_t1_loop.trips) :
    trip_k0_t1.sl.v2922 arg1 arg12 tl th X1 X12 k
      = colsOf (tileE tl th) (wT (rdw arg1 X1 (k0_off2 k) (k0_off2_inb k)))
          (rd arg12 X12 (k0_off3 k 0#32) (k0_off3_inb k 0)) (rd arg12 X12 (k0_off5 k 0#32) (k0_off5_inb k 0))
          (rd arg12 X12 (k0_off3 k 1#32) (k0_off3_inb k 1)) (rd arg12 X12 (k0_off5 k 1#32) (k0_off5_inb k 1)) := rfl

theorem t1_odd (k : Fin k0_t1_loop.trips) :
    trip_k0_t1.sl.v2923 arg1 arg12 tl th ev X1 X12 k
      = colsOf (tileO ev tl th) (wT (rdw arg1 X1 (k0_off2 k) (k0_off2_inb k)))
          (rd arg12 X12 (k0_off4 k 0#32) (k0_off4_inb k 0)) (rd arg12 X12 (k0_off6 k 0#32) (k0_off6_inb k 0))
          (rd arg12 X12 (k0_off4 k 1#32) (k0_off4_inb k 1)) (rd arg12 X12 (k0_off6 k 1#32) (k0_off6_inb k 1)) := rfl

theorem t2_even (k : Fin k0_t2_loop.trips) :
    trip_k0_t2.sl.v2922 arg1 arg12 tl th X1 X12 k
      = colsOf (tileE tl th) (wT (rdw arg1 X1 (k0_off8 k) (k0_off8_inb k)))
          (rd arg12 X12 (k0_off9 k 0#32) (k0_off9_inb k 0)) (rd arg12 X12 (k0_off11 k 0#32) (k0_off11_inb k 0))
          (rd arg12 X12 (k0_off9 k 1#32) (k0_off9_inb k 1)) (rd arg12 X12 (k0_off11 k 1#32) (k0_off11_inb k 1)) := rfl

theorem t2_odd (k : Fin k0_t2_loop.trips) :
    trip_k0_t2.sl.v2923 arg1 arg12 tl th ev X1 X12 k
      = colsOf (tileO ev tl th) (wT (rdw arg1 X1 (k0_off8 k) (k0_off8_inb k)))
          (rd arg12 X12 (k0_off10 k 0#32) (k0_off10_inb k 0)) (rd arg12 X12 (k0_off12 k 0#32) (k0_off12_inb k 0))
          (rd arg12 X12 (k0_off10 k 1#32) (k0_off10_inb k 1)) (rd arg12 X12 (k0_off12 k 1#32) (k0_off12_inb k 1)) := rfl

end Trips

end Cert.KernelIdeal.Tile
-- ==== Proof.Shuffle.lean ====
/- LANE SHUFFLES of the kernel: even and odd lanes of 256 into two registers and back, the activation scratch filled with
   them, and the columns of the last chunk, which also carries the low-rank factor. -/
module

public import proofs.«01_k».proof.Proof.Chunk

@[expose] public section

set_option maxRecDepth 16384

noncomputable section

namespace Cert.KernelIdeal.Tile

open Idealize.ShloMosaic Idealize.SL.Sem Cert.KernelIdeal.Gen

variable {F : FTy → Type} [FloatOps F]

/-! ## The definitions -/

/-- Lane `g` of each row. -/
def glane (x : FVec F S16x128 .bf16) (g : IVec S16x128 32) : FVec F S16x128 .bf16 :=
  truncf .bf16 (dynamicGather 1 (extf .f32 x bitsLt_bf16_f32)
    (shapeCast S16x128 (shapeCast S16x128x1 g shapeCasts_S16x128_S16x128x1) shapeCasts_S16x128x1_S16x128)) bitsLt_bf16_f32

def lanes : IVec S16x128 32 := iota .tc S16x128 32 [1] iota_S16x128_d1_w32

/-- Twice the lane, modulo 128. -/
def twice : IVec S16x128 32 := andi (muli (broadcast S16x128 2#32) lanes) (broadcast S16x128 127#32)

def firstHalf : IVec S16x128 1 := cmpi .slt lanes (broadcast S16x128 64#32)

/-- The even lanes of `a` then `b`. -/
def deintE (a b : FVec F S16x128 .bf16) : FVec F S16x128 .bf16 := select firstHalf (glane a twice) (glane b twice)

/-- The odd lanes. -/
def deintO (a b : FVec F S16x128 .bf16) : FVec F S16x128 .bf16 :=
  select firstHalf (glane a (addi twice (broadcast S16x128 1#32))) (glane b (addi twice (broadcast S16x128 1#32)))

/-- Half `q` of the lanes of `e` and `o` taken in turn. -/
def interl (q : BitVec 32) (e o : FVec F S16x128 .bf16) : FVec F S16x128 .bf16 :=
  select (cmpi .eq (andi lanes (broadcast S16x128 1#32)) (broadcast S16x128 0#32))
    (glane e (addi (shrsi lanes (broadcast S16x128 1#32)) (broadcast S16x128 q)))
    (glane o (addi (shrsi lanes (broadcast S16x128 1#32)) (broadcast S16x128 q)))

/-- The last 128 activations, the even ones first. -/
def tailX (x : FVec F S16x128 .bf16) : FVec F S16x128 .bf16 :=
  glane x (select firstHalf (muli (broadcast S16x128 2#32) lanes)
    (addi (muli (broadcast S16x128 2#32) (subi lanes (broadcast S16x128 64#32))) (broadcast S16x128 1#32)))

/-- Twice the activations times the first low-rank factor, then zeros. -/
def loraX (x : FVec F S16x6528 .bf16) (la : FVec F S6528x16 .bf16) : FVec F S16x128 .bf16 :=
  concatenate S16x128 1
    [⟨S16x16, mulf (truncf .bf16 (matmul dot_S16x6528_S6528x16_S16x16_1_0_0_1_n_n none
        (shapeCast S16x6528 x shapeCasts_S16x6528_S16x6528) la (constant S16x16 .f32 0x00000000#32)) bitsLt_bf16_f32)
        (broadcast S16x16 (Scalar.ofBits .bf16 0x4000#16))⟩,
      ⟨S16x112, broadcast S16x112 (Scalar.ofBits .bf16 0x0000#16)⟩] concatenates_S16x16_S16x112_S16x128_d1

/-- A read of 128 activations of every token. -/
def rdx (arg5 : Memref sig .tc .vmem S16x6528 .bf16) (X : BufTy.Contents (Elt F) arg5.view.ty) (c : Fin 51) :
    FVec F S16x128 .bf16 :=
  View.readAt (Elt F) arg5.view (Rect.unit (s := S16x6528) ![0, 128 * c.val] S16x128.size (by
    intro a
    match a with
    | ⟨0, _⟩ => exact Nat.le_refl 16
    | ⟨1, _⟩ => show 128 * c.val + 128 ≤ 6528; omega)).toLoadRect X

def one (x : FVec F S16x128 .bf16) : Vec F S1x16x128 .bf16 := shapeCast S1x16x128 x shapeCasts_S16x128_S1x16x128

def same (x : FVec F S16x128 .bf16) : FVec F S16x128 .bf16 := shapeCast S16x128 x shapeCasts_S16x128_S16x128

/-- A store to half `h` of chunk `c` of the activation scratch. -/
def stx (c : Fin 26) (h : Fin 2) (w : Vec F S1x16x128 .bf16) : View.Piece (Elt F) S26x16x256 .bf16 :=
  ⟨Rect.unit ![c.val, 0, 128 * h.val] S1x16x128.size (by
    intro a
    match a with
    | ⟨0, _⟩ => show c.val + 1 ≤ 26; omega
    | ⟨1, _⟩ => exact Nat.le_refl 16
    | ⟨2, _⟩ => show 128 * h.val + 128 ≤ 256; omega), w⟩

/-- The stores of a whole chunk. -/
def stc (arg5 : Memref sig .tc .vmem S16x6528 .bf16) (X : BufTy.Contents (Elt F) arg5.view.ty) (c : Fin 25) :
    List (View.Piece (Elt F) S26x16x256 .bf16) :=
  [stx ⟨c.val, by omega⟩ 1 (one (deintO (same (rdx arg5 X ⟨2 * c.val, by omega⟩)) (same (rdx arg5 X ⟨2 * c.val + 1, by omega⟩)))),
    stx ⟨c.val, by omega⟩ 0 (one (deintE (same (rdx arg5 X ⟨2 * c.val, by omega⟩)) (same (rdx arg5 X ⟨2 * c.val + 1, by omega⟩))))]

/-- All the stores to the activation scratch, the last first. -/
def storesX (arg5 : Memref sig .tc .vmem S16x6528 .bf16) (X : BufTy.Contents (Elt F) arg5.view.ty)
    (x : FVec F S16x6528 .bf16) (la : FVec F S6528x16 .bf16) : List (View.Piece (Elt F) S26x16x256 .bf16) :=
  stx 25 1 (one (loraX x la)) :: stx 25 0 (one (tailX (same (rdx arg5 X 50)))) ::
    ([24, 23, 22, 21, 20, 19, 18, 17, 16, 15, 14, 13, 12, 11, 10, 9, 8, 7, 6, 5, 4, 3, 2, 1, 0] : List (Fin 25)).flatMap (stc arg5 X)

/-- A tile of zeros. -/
def zeros : FVec F S16x128 .bf16 := broadcast S16x128 (Scalar.ofBits .bf16 0x0000#16)

/-- The columns of the last chunk: four tiles of high nibbles, four of low ones, the second low-rank factor, zeros. -/
def tailCols (g : IVec S32x128 8 → FVec F S16x128 .bf16 → FVec F S16x128 .bf16) (y : IVec S64x128 16)
    (r0 r1 : Vec F S1x1x1x1x2x128 .bf16) (le : FVec F S16x128 .bf16) : FVec F S256x128 .bf16 :=
  stack
    (g (hiNib (wdt y 0 slices_S64x128_o0_0_S16x128)) (amRow r0)) (g (hiNib (wdt y 16 slices_S64x128_o16_0_S16x128)) (amRow r0))
    (g (hiNib (wdt y 32 slices_S64x128_o32_0_S16x128)) (amRow r1)) (g (hiNib (wdt y 48 slices_S64x128_o48_0_S16x128)) (amRow r1))
    (g (loNib (wdt y 0 slices_S64x128_o0_0_S16x128)) (amRow r0)) (g (loNib (wdt y 16 slices_S64x128_o16_0_S16x128)) (amRow r0))
    (g (loNib (wdt y 32 slices_S64x128_o32_0_S16x128)) (amRow r1)) (g (loNib (wdt y 48 slices_S64x128_o48_0_S16x128)) (amRow r1))
    le zeros zeros zeros zeros zeros zeros zeros

/-- Half `q` of a strip's result, from the two halves of the accumulator. -/
def outTile (acc : FVec F S16x256 .f32) (q : BitVec 32) : FVec F S16x128 .bf16 :=
  interl q (extractStridedSlice S16x128 ![0, 0] (truncf .bf16 acc bitsLt_bf16_f32) slices_S16x256_o0_0_S16x128)
    (extractStridedSlice S16x128 ![0, 128] (truncf .bf16 acc bitsLt_bf16_f32) slices_S16x256_o0_128_S16x128)

/-- One turn: the accumulator plus a chunk's product. -/
def turn (acc : FVec F S16x256 .f32) (x : Vec F S1x16x256 .bf16) (E O : FVec F S256x128 .bf16) :
    FVec F S16x256 .f32 :=
  addf acc (matmul (φ₁ := .bf16) (φ₂ := .bf16) dot_S16x256_S256x256_S16x256_1_0_0_1_n_n none
    (shapeCast S16x256 x shapeCasts_S1x16x256_S16x256)
    (concatenate S256x256 1 [⟨S256x128, E⟩, ⟨S256x128, O⟩] concatenates_S256x128_S256x128_S256x256_d1)
    (constant S16x256 .f32 0x00000000#32))

end Cert.KernelIdeal.Tile
-- ==== Proof.Loop.lean ====
/- THE KERNEL'S TWO LOOPS. A turn adds one chunk's product to the accumulator; after 25 turns the accumulator of a
   column holds the sum over the 25 chunks of the activations times the dequantised weights. The reads of the blocks
   are put in terms of plain functions of natural numbers, so that no later step argues about bounds. -/
module

public import proofs.«01_k».proof.Proof.Shuffle

@[expose] public section

set_option maxRecDepth 16384

noncomputable section

namespace Cert.KernelIdeal.Tile

open Idealize.ShloMosaic Idealize.SL.Sem Cert.KernelIdeal.Gen

/-- The packed bytes at a row and a column. -/
def gX (X : Vec Ideal S512x3264 .i8) (r c : ℕ) : BitVec 8 := X (ix2 (Fin.ofNat 512 r) (Fin.ofNat 3264 c))

/-- The absmax scratch at strip, parity of the row, parity of the quantisation block, half its number, lane. -/
def gA (A : Vec Ideal S2x2x2x56x2x128 .bf16) (s e p b l : ℕ) : EReal :=
  A (ix6 (Fin.ofNat 2 s) (Fin.ofNat 2 e) (Fin.ofNat 2 p) (Fin.ofNat 56 b) 0 (Fin.ofNat 128 l))

/-- The activation scratch at a chunk, a token and a column. -/
def gS (S : Vec Ideal S26x16x256 .bf16) (c m j : ℕ) : EReal :=
  S (ix3 (Fin.ofNat 26 c) (Fin.ofNat 16 m) (Fin.ofNat 256 j))

/-- The dequantised weight of row `2l+e` of strip `s` in row `j` of chunk `c`. -/
def term (X : Vec Ideal S512x3264 .i8) (A : Vec Ideal S2x2x2x56x2x128 .bf16) (s e l c j : ℕ) : EReal :=
  Ideal.ofBits .bf16 (lv (nib (j / 128) (gX X (256 * s + 2 * l + e) (128 * c + j % 128))))
    * gA A s e (j % 128 / 32 % 2) (2 * c + j % 128 / 64) l

theorem rdw_apply (arg1 : Memref sig .tc .vmem S512x3264 .i8) (X : BufTy.Contents (Elt Ideal) arg1.view.ty)
    (off : Fin 2 → ℕ) (h : ∀ a, off a + S256x128.size a ≤ S512x3264.size a) (a b o0 o1 : ℕ) (ha : a < 256) (hb : b < 128)
    (h0 : off 0 = o0) (h1 : off 1 = o1) :
    rdw arg1 X off h (ix2 ⟨a, ha⟩ ⟨b, hb⟩) = gX (arg1.view.read (Elt Ideal) X) (o0 + a) (o1 + b) := by
  have e0 := h 0
  have e1 := h 1
  rw [h0] at e0; rw [h1] at e1
  change o0 + 256 ≤ 512 at e0; change o1 + 128 ≤ 3264 at e1
  show arg1.view.read (Elt Ideal) X _ = arg1.view.read (Elt Ideal) X _
  congr 1
  funext q
  match q with
  | ⟨0, _⟩ =>
    apply Fin.ext
    show off 0 + 1 * a = (o0 + a) % 512
    rw [h0]; omega
  | ⟨1, _⟩ =>
    apply Fin.ext
    show off 1 + 1 * b = (o1 + b) % 3264
    rw [h1]; omega

theorem rd_apply (arg12 : Memref sig .tc .vmem S2x2x2x56x2x128 .bf16) (X : BufTy.Contents (Elt Ideal) arg12.view.ty)
    (off : Fin 6 → ℕ) (h : ∀ a, off a + S1x1x1x1x2x128.size a ≤ S2x2x2x56x2x128.size a) (l : Fin 128) (s e p b : ℕ)
    (h0 : off = ![s, e, p, b, 0, 0]) :
    rd arg12 X off h (ix6 0 0 0 0 0 l) = gA (arg12.view.read (Elt Ideal) X) s e p b l.val := by
  subst h0
  have e0 : s + 1 ≤ 2 := h 0
  have e1 : e + 1 ≤ 2 := h 1
  have e2 : p + 1 ≤ 2 := h 2
  have e3 : b + 1 ≤ 56 := h 3
  show arg12.view.read (Elt Ideal) X _ = arg12.view.read (Elt Ideal) X _
  congr 1
  funext q
  match q with
  | ⟨0, _⟩ => apply Fin.ext; show s + 1 * 0 = s % 2; omega
  | ⟨1, _⟩ => apply Fin.ext; show e + 1 * 0 = e % 2; omega
  | ⟨2, _⟩ => apply Fin.ext; show p + 1 * 0 = p % 2; omega
  | ⟨3, _⟩ => apply Fin.ext; show b + 1 * 0 = b % 56; omega
  | ⟨4, _⟩ => rfl
  | ⟨5, _⟩ => apply Fin.ext; show 0 + 1 * l.val = l.val % 128; omega

/-- A read of one chunk of the activations. -/
def rds (arg11 : Memref sig .tc .vmem S26x16x256 .bf16) (X : BufTy.Contents (Elt Ideal) arg11.view.ty)
    (off : Fin 3 → ℕ) (h : ∀ a, off a + S1x16x256.size a ≤ S26x16x256.size a) : Vec Ideal S1x16x256 .bf16 :=
  View.readAt (Elt Ideal) arg11.view (Rect.unit (s := S26x16x256) off S1x16x256.size h).toLoadRect X

theorem rds_apply (arg11 : Memref sig .tc .vmem S26x16x256 .bf16) (X : BufTy.Contents (Elt Ideal) arg11.view.ty)
    (off : Fin 3 → ℕ) (h : ∀ a, off a + S1x16x256.size a ≤ S26x16x256.size a) (m : Fin 16) (j : Fin 256) (c : ℕ)
    (h0 : off = ![c, 0, 0]) :
    rds arg11 X off h (ix3 0 m j) = gS (arg11.view.read (Elt Ideal) X) c m.val j.val := by
  subst h0
  have e0 : c + 1 ≤ 26 := h 0
  show arg11.view.read (Elt Ideal) X _ = arg11.view.read (Elt Ideal) X _
  congr 1
  funext q
  match q with
  | ⟨0, _⟩ => apply Fin.ext; show c + 1 * 0 = c % 26; omega
  | ⟨1, _⟩ => apply Fin.ext; show 0 + 1 * m.val = m.val % 16; omega
  | ⟨2, _⟩ => apply Fin.ext; show 0 + 1 * j.val = j.val % 256; omega

theorem turn_even (acc : FVec Ideal S16x256 .f32) (x : Vec Ideal S1x16x256 .bf16) (E O : FVec Ideal S256x128 .bf16)
    (m : Fin 16) (l : Fin 128) :
    turn acc x E O (ix2 m ⟨l.val, by omega⟩) = acc (ix2 m ⟨l.val, by omega⟩) + ∑ j : Fin 256, x (ix3 0 m j) * E (ix2 j l) := by
  unfold turn
  pointwise

theorem turn_odd (acc : FVec Ideal S16x256 .f32) (x : Vec Ideal S1x16x256 .bf16) (E O : FVec Ideal S256x128 .bf16)
    (m : Fin 16) (l : Fin 128) :
    turn acc x E O (ix2 m ⟨128 + l.val, by omega⟩)
      = acc (ix2 m ⟨128 + l.val, by omega⟩) + ∑ j : Fin 256, x (ix3 0 m j) * O (ix2 j l) := by
  unfold turn
  pointwise

/-- The value of column `128 e + l` after `k` chunks. -/
def chunks (X : Vec Ideal S512x3264 .i8) (S : Vec Ideal S26x16x256 .bf16) (A : Vec Ideal S2x2x2x56x2x128 .bf16)
    (s e k m l : ℕ) : EReal :=
  ∑ c ∈ Finset.range k, ∑ j : Fin 256, gS S c m j.val * term X A s e l c j.val

/-- The columns a loop's turn multiplies, as the dequantised weights. -/
theorem chunk_term {W : Vec Ideal S256x128 .i8} {r0 r1 r2 r3 : Vec Ideal S1x1x1x1x2x128 .bf16}
    {X : Vec Ideal S512x3264 .i8} {A : Vec Ideal S2x2x2x56x2x128 .bf16} {s e k : ℕ} (he : e < 2) (l : Fin 128)
    (hW : ∀ b (hb : b < 128), W (ix2 ⟨2 * l.val + e, by omega⟩ ⟨b, hb⟩) = gX X (256 * s + 2 * l.val + e) (128 * k + b))
    (h0 : r0 (ix6 0 0 0 0 0 l) = gA A s e 0 (2 * k) l.val) (h1 : r1 (ix6 0 0 0 0 0 l) = gA A s e 1 (2 * k) l.val)
    (h2 : r2 (ix6 0 0 0 0 0 l) = gA A s e 0 (2 * k + 1) l.val) (h3 : r3 (ix6 0 0 0 0 0 l) = gA A s e 1 (2 * k + 1) l.val)
    (n : Fin 16) (r : Fin 16) :
    Ideal.ofBits .bf16 (lv (nib (n.val / 8) (W (ix2 ⟨2 * l.val + e, by omega⟩ ⟨16 * (n.val % 8) + r.val, by omega⟩))))
        * (![r0, r1, r2, r3] : Fin 4 → Vec Ideal S1x1x1x1x2x128 .bf16) ⟨(n.val % 8) / 2, by omega⟩ (ix6 0 0 0 0 0 l)
      = term X A s e l.val k (16 * n.val + r.val) := by
  unfold term
  have hr := r.isLt
  rw [hW]
  have e1 : (16 * n.val + r.val) / 128 = n.val / 8 := by omega
  have e2 : (16 * n.val + r.val) % 128 = 16 * (n.val % 8) + r.val := by omega
  rw [e1, e2]
  congr 1
  have hn : n.val % 8 / 2 < 4 := by omega
  obtain ⟨q, hq⟩ : ∃ q : Fin 4, q.val = n.val % 8 / 2 := ⟨⟨_, hn⟩, rfl⟩
  have e3 : (16 * (n.val % 8) + r.val) / 32 % 2 = q.val % 2 := by omega
  have e4 : (16 * (n.val % 8) + r.val) / 64 = q.val / 2 := by omega
  have e5 : (⟨(n.val % 8) / 2, by omega⟩ : Fin 4) = q := Fin.ext hq.symm
  rw [e3, e4, e5]
  match q with
  | ⟨0, _⟩ => simpa using h0
  | ⟨1, _⟩ => simpa using h1
  | ⟨2, _⟩ => simpa using h2
  | ⟨3, _⟩ => simpa using h3

/-! ## The offsets of the turns -/

theorem t1_off (k : Fin k0_t1_loop.trips) : k0_off2 k 1 = 128 * k.val ∧ k0_off7 k = ![k.val, 0, 0] := by
  revert k
  show ∀ k : Fin 25, _
  intro k
  fin_cases k <;> exact ⟨rfl, rfl⟩

theorem t1_off3 (k : Fin k0_t1_loop.trips) :
    k0_off3 k 0#32 = ![0, 0, 0, 2 * k.val, 0, 0] ∧ k0_off3 k 1#32 = ![0, 0, 0, 2 * k.val + 1, 0, 0] := by
  revert k
  show ∀ k : Fin 25, _
  intro k
  fin_cases k <;> exact ⟨rfl, rfl⟩

theorem t1_off5 (k : Fin k0_t1_loop.trips) :
    k0_off5 k 0#32 = ![0, 0, 1, 2 * k.val, 0, 0] ∧ k0_off5 k 1#32 = ![0, 0, 1, 2 * k.val + 1, 0, 0] := by
  revert k
  show ∀ k : Fin 25, _
  intro k
  fin_cases k <;> exact ⟨rfl, rfl⟩

theorem t1_off4 (k : Fin k0_t1_loop.trips) :
    k0_off4 k 0#32 = ![0, 1, 0, 2 * k.val, 0, 0] ∧ k0_off4 k 1#32 = ![0, 1, 0, 2 * k.val + 1, 0, 0] := by
  revert k
  show ∀ k : Fin 25, _
  intro k
  fin_cases k <;> exact ⟨rfl, rfl⟩

theorem t1_off6 (k : Fin k0_t1_loop.trips) :
    k0_off6 k 0#32 = ![0, 1, 1, 2 * k.val, 0, 0] ∧ k0_off6 k 1#32 = ![0, 1, 1, 2 * k.val + 1, 0, 0] := by
  revert k
  show ∀ k : Fin 25, _
  intro k
  fin_cases k <;> exact ⟨rfl, rfl⟩

theorem t2_off (k : Fin k0_t2_loop.trips) : k0_off8 k 1 = 128 * k.val ∧ k0_off13 k = ![k.val, 0, 0] := by
  revert k
  show ∀ k : Fin 25, _
  intro k
  fin_cases k <;> exact ⟨rfl, rfl⟩

theorem t2_off9 (k : Fin k0_t2_loop.trips) :
    k0_off9 k 0#32 = ![1, 0, 0, 2 * k.val, 0, 0] ∧ k0_off9 k 1#32 = ![1, 0, 0, 2 * k.val + 1, 0, 0] := by
  revert k
  show ∀ k : Fin 25, _
  intro k
  fin_cases k <;> exact ⟨rfl, rfl⟩

theorem t2_off11 (k : Fin k0_t2_loop.trips) :
    k0_off11 k 0#32 = ![1, 0, 1, 2 * k.val, 0, 0] ∧ k0_off11 k 1#32 = ![1, 0, 1, 2 * k.val + 1, 0, 0] := by
  revert k
  show ∀ k : Fin 25, _
  intro k
  fin_cases k <;> exact ⟨rfl, rfl⟩

theorem t2_off10 (k : Fin k0_t2_loop.trips) :
    k0_off10 k 0#32 = ![1, 1, 0, 2 * k.val, 0, 0] ∧ k0_off10 k 1#32 = ![1, 1, 0, 2 * k.val + 1, 0, 0] := by
  revert k
  show ∀ k : Fin 25, _
  intro k
  fin_cases k <;> exact ⟨rfl, rfl⟩

theorem t2_off12 (k : Fin k0_t2_loop.trips) :
    k0_off12 k 0#32 = ![1, 1, 1, 2 * k.val, 0, 0] ∧ k0_off12 k 1#32 = ![1, 1, 1, 2 * k.val + 1, 0, 0] := by
  revert k
  show ∀ k : Fin 25, _
  intro k
  fin_cases k <;> exact ⟨rfl, rfl⟩

section Loops
variable {tl th : IVec S32x128 32} {ev : IVec S32x128 1}

theorem t1_even_apply (arg1 : Memref sig .tc .vmem S512x3264 .i8) (arg12 : Memref sig .tc .vmem S2x2x2x56x2x128 .bf16)
    (X1 : BufTy.Contents (Elt Ideal) arg1.view.ty) (X12 : BufTy.Contents (Elt Ideal) arg12.view.ty)
    (T : Tables tl th) (hev : ∀ (ρ : Fin 32) (l : Fin 128), ev (ix2 ρ l) = if ρ.val % 2 = 0 then 1#1 else 0#1)
    (k : Fin k0_t1_loop.trips) (j : Fin 256) (l : Fin 128) :
    trip_k0_t1.sl.v2922 arg1 arg12 tl th X1 X12 k (ix2 j l)
      = term (arg1.view.read (Elt Ideal) X1) (arg12.view.read (Elt Ideal) X12) 0 0 l.val k.val j.val := by
  have hk : k.val < 25 := k.isLt
  rw [t1_even]
  obtain ⟨n, r, rfl⟩ : ∃ (n r : Fin 16), j = ⟨16 * n.val + r.val, by omega⟩ :=
    ⟨⟨j.val / 16, by omega⟩, ⟨j.val % 16, by omega⟩, Fin.ext (by simp only; omega)⟩
  rw [colsE_apply T ]
  exact chunk_term (s := 0) (e := 0) (by omega) l
    (fun b hb => (rdw_apply arg1 X1 _ _ _ b 0 (128 * k.val) (by omega) hb rfl (t1_off k).1).trans (by congr 1))
    (rd_apply arg12 X12 _ _ l 0 0 0 (2 * k.val) (t1_off3 k).1) (rd_apply arg12 X12 _ _ l 0 0 1 (2 * k.val) (t1_off5 k).1)
    (rd_apply arg12 X12 _ _ l 0 0 0 (2 * k.val + 1) (t1_off3 k).2) (rd_apply arg12 X12 _ _ l 0 0 1 (2 * k.val + 1) (t1_off5 k).2) n r

theorem t1_odd_apply (arg1 : Memref sig .tc .vmem S512x3264 .i8) (arg12 : Memref sig .tc .vmem S2x2x2x56x2x128 .bf16)
    (X1 : BufTy.Contents (Elt Ideal) arg1.view.ty) (X12 : BufTy.Contents (Elt Ideal) arg12.view.ty)
    (T : Tables tl th) (hev : ∀ (ρ : Fin 32) (l : Fin 128), ev (ix2 ρ l) = if ρ.val % 2 = 0 then 1#1 else 0#1)
    (k : Fin k0_t1_loop.trips) (j : Fin 256) (l : Fin 128) :
    trip_k0_t1.sl.v2923 arg1 arg12 tl th ev X1 X12 k (ix2 j l)
      = term (arg1.view.read (Elt Ideal) X1) (arg12.view.read (Elt Ideal) X12) 0 1 l.val k.val j.val := by
  have hk : k.val < 25 := k.isLt
  rw [t1_odd]
  obtain ⟨n, r, rfl⟩ : ∃ (n r : Fin 16), j = ⟨16 * n.val + r.val, by omega⟩ :=
    ⟨⟨j.val / 16, by omega⟩, ⟨j.val % 16, by omega⟩, Fin.ext (by simp only; omega)⟩
  rw [colsO_apply T hev ]
  exact chunk_term (s := 0) (e := 1) (by omega) l
    (fun b hb => (rdw_apply arg1 X1 _ _ _ b 0 (128 * k.val) (by omega) hb rfl (t1_off k).1).trans (by congr 1))
    (rd_apply arg12 X12 _ _ l 0 1 0 (2 * k.val) (t1_off4 k).1) (rd_apply arg12 X12 _ _ l 0 1 1 (2 * k.val) (t1_off6 k).1)
    (rd_apply arg12 X12 _ _ l 0 1 0 (2 * k.val + 1) (t1_off4 k).2) (rd_apply arg12 X12 _ _ l 0 1 1 (2 * k.val + 1) (t1_off6 k).2) n r

theorem t1_trip (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole)
    (v710_lo v710_hi : FVec Ideal S3x128 .bf16) (X1 : BufTy.Contents (Elt Ideal) arg1.view.ty) (X11 : BufTy.Contents (Elt Ideal) arg11.view.ty)
    (X12 : BufTy.Contents (Elt Ideal) arg12.view.ty) (k : Fin k0_t1_loop.trips) (acc : FVec Ideal S16x256 .f32) :
    tripR_k0_t1 Variants.none c none i arg1 harg1 arg2 harg2 arg3 harg3 arg4 harg4 arg5 harg5 arg6 harg6 arg7 harg7 arg8 harg8 arg9 harg9 arg10 harg10 arg11 harg11 arg12 harg12 tl th ev v710_lo v710_hi X1 X11 X12 k acc
      = turn acc (rds arg11 X11 (k0_off7 k) (k0_off7_inb k))
          (trip_k0_t1.sl.v2922 arg1 arg12 tl th X1 X12 k) (trip_k0_t1.sl.v2923 arg1 arg12 tl th ev X1 X12 k) := by
  unfold tripR_k0_t1 trip_k0_t1
  rfl

theorem t2_even_apply (arg1 : Memref sig .tc .vmem S512x3264 .i8) (arg12 : Memref sig .tc .vmem S2x2x2x56x2x128 .bf16)
    (X1 : BufTy.Contents (Elt Ideal) arg1.view.ty) (X12 : BufTy.Contents (Elt Ideal) arg12.view.ty)
    (T : Tables tl th) (hev : ∀ (ρ : Fin 32) (l : Fin 128), ev (ix2 ρ l) = if ρ.val % 2 = 0 then 1#1 else 0#1)
    (k : Fin k0_t2_loop.trips) (j : Fin 256) (l : Fin 128) :
    trip_k0_t2.sl.v2922 arg1 arg12 tl th X1 X12 k (ix2 j l)
      = term (arg1.view.read (Elt Ideal) X1) (arg12.view.read (Elt Ideal) X12) 1 0 l.val k.val j.val := by
  have hk : k.val < 25 := k.isLt
  rw [t2_even]
  obtain ⟨n, r, rfl⟩ : ∃ (n r : Fin 16), j = ⟨16 * n.val + r.val, by omega⟩ :=
    ⟨⟨j.val / 16, by omega⟩, ⟨j.val % 16, by omega⟩, Fin.ext (by simp only; omega)⟩
  rw [colsE_apply T ]
  exact chunk_term (s := 1) (e := 0) (by omega) l
    (fun b hb => (rdw_apply arg1 X1 _ _ _ b 256 (128 * k.val) (by omega) hb rfl (t2_off k).1).trans (by congr 1))
    (rd_apply arg12 X12 _ _ l 1 0 0 (2 * k.val) (t2_off9 k).1) (rd_apply arg12 X12 _ _ l 1 0 1 (2 * k.val) (t2_off11 k).1)
    (rd_apply arg12 X12 _ _ l 1 0 0 (2 * k.val + 1) (t2_off9 k).2) (rd_apply arg12 X12 _ _ l 1 0 1 (2 * k.val + 1) (t2_off11 k).2) n r

theorem t2_odd_apply (arg1 : Memref sig .tc .vmem S512x3264 .i8) (arg12 : Memref sig .tc .vmem S2x2x2x56x2x128 .bf16)
    (X1 : BufTy.Contents (Elt Ideal) arg1.view.ty) (X12 : BufTy.Contents (Elt Ideal) arg12.view.ty)
    (T : Tables tl th) (hev : ∀ (ρ : Fin 32) (l : Fin 128), ev (ix2 ρ l) = if ρ.val % 2 = 0 then 1#1 else 0#1)
    (k : Fin k0_t2_loop.trips) (j : Fin 256) (l : Fin 128) :
    trip_k0_t2.sl.v2923 arg1 arg12 tl th ev X1 X12 k (ix2 j l)
      = term (arg1.view.read (Elt Ideal) X1) (arg12.view.read (Elt Ideal) X12) 1 1 l.val k.val j.val := by
  have hk : k.val < 25 := k.isLt
  rw [t2_odd]
  obtain ⟨n, r, rfl⟩ : ∃ (n r : Fin 16), j = ⟨16 * n.val + r.val, by omega⟩ :=
    ⟨⟨j.val / 16, by omega⟩, ⟨j.val % 16, by omega⟩, Fin.ext (by simp only; omega)⟩
  rw [colsO_apply T hev ]
  exact chunk_term (s := 1) (e := 1) (by omega) l
    (fun b hb => (rdw_apply arg1 X1 _ _ _ b 256 (128 * k.val) (by omega) hb rfl (t2_off k).1).trans (by congr 1))
    (rd_apply arg12 X12 _ _ l 1 1 0 (2 * k.val) (t2_off10 k).1) (rd_apply arg12 X12 _ _ l 1 1 1 (2 * k.val) (t2_off12 k).1)
    (rd_apply arg12 X12 _ _ l 1 1 0 (2 * k.val + 1) (t2_off10 k).2) (rd_apply arg12 X12 _ _ l 1 1 1 (2 * k.val + 1) (t2_off12 k).2) n r

theorem t2_trip (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole)
    (v1486 v1493 : FVec Ideal S8x128 .f32) (v1795 v1802 v1803 : IVec S3x128 32) (X1 : BufTy.Contents (Elt Ideal) arg1.view.ty) (X11 : BufTy.Contents (Elt Ideal) arg11.view.ty)
    (X12 : BufTy.Contents (Elt Ideal) arg12.view.ty) (k : Fin k0_t2_loop.trips) (acc : FVec Ideal S16x256 .f32) :
    tripR_k0_t2 Variants.none c none i arg1 harg1 arg2 harg2 arg3 harg3 arg4 harg4 arg5 harg5 arg6 harg6 arg7 harg7 arg8 harg8 arg9 harg9 arg10 harg10 arg11 harg11 arg12 harg12 tl th ev v1486 v1493 v1795 v1802 v1803 X1 X11 X12 k acc
      = turn acc (rds arg11 X11 (k0_off13 k) (k0_off13_inb k))
          (trip_k0_t2.sl.v2922 arg1 arg12 tl th X1 X12 k) (trip_k0_t2.sl.v2923 arg1 arg12 tl th ev X1 X12 k) := by
  unfold tripR_k0_t2 trip_k0_t2
  rfl

/-- After `k` turns a column holds the sum over the first `k` chunks. -/
theorem t1_loop (T : Tables tl th) (hev : ∀ (ρ : Fin 32) (l : Fin 128), ev (ix2 ρ l) = if ρ.val % 2 = 0 then 1#1 else 0#1)
    (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole)
    (v710_lo v710_hi : FVec Ideal S3x128 .bf16) (X1 : BufTy.Contents (Elt Ideal) arg1.view.ty) (X11 : BufTy.Contents (Elt Ideal) arg11.view.ty)
    (X12 : BufTy.Contents (Elt Ideal) arg12.view.ty) (k : ℕ) (hk : k ≤ 25) (m : Fin 16) (l : Fin 128) :
    st_k0_t1 Variants.none c none i arg1 harg1 arg2 harg2 arg3 harg3 arg4 harg4 arg5 harg5 arg6 harg6 arg7 harg7 arg8 harg8 arg9 harg9 arg10 harg10 arg11 harg11 arg12 harg12 tl th ev v710_lo v710_hi X1 X11 X12 k0_pay482 k (ix2 m ⟨l.val, by omega⟩)
        = chunks (arg1.view.read (Elt Ideal) X1) (arg11.view.read (Elt Ideal) X11) (arg12.view.read (Elt Ideal) X12) 0 0 k m.val l.val
      ∧ st_k0_t1 Variants.none c none i arg1 harg1 arg2 harg2 arg3 harg3 arg4 harg4 arg5 harg5 arg6 harg6 arg7 harg7 arg8 harg8 arg9 harg9 arg10 harg10 arg11 harg11 arg12 harg12 tl th ev v710_lo v710_hi X1 X11 X12 k0_pay482 k (ix2 m ⟨128 + l.val, by omega⟩)
        = chunks (arg1.view.read (Elt Ideal) X1) (arg11.view.read (Elt Ideal) X11) (arg12.view.read (Elt Ideal) X12) 0 1 k m.val l.val := by
  induction k with
  | zero =>
    rw [st_k0_t1_zero]
    unfold chunks
    rw [Finset.range_zero, Finset.sum_empty, Finset.sum_empty]
    exact ⟨Ideal.ofBits_zero_f32, Ideal.ofBits_zero_f32⟩
  | succ k ih =>
    obtain ⟨ih0, ih1⟩ := ih (by omega)
    have e := st_k0_t1_succ Variants.none c none i arg1 harg1 arg2 harg2 arg3 harg3 arg4 harg4 arg5 harg5 arg6 harg6 arg7 harg7 arg8 harg8 arg9 harg9 arg10 harg10 arg11 harg11 arg12 harg12 tl th ev v710_lo v710_hi X1 X11 X12 k0_pay482 (⟨k, hk⟩ : Fin k0_t1_loop.trips)
    have e' := e.trans (t1_trip c i arg1 harg1 arg2 harg2 arg3 harg3 arg4 harg4 arg5 harg5 arg6 harg6 arg7 harg7 arg8 harg8 arg9 harg9 arg10 harg10 arg11 harg11 arg12 harg12 v710_lo v710_hi X1 X11 X12 ⟨k, hk⟩ _)
    refine ⟨(congrFun e' _).trans ((turn_even _ _ _ _ m l).trans ?_), (congrFun e' _).trans ((turn_odd _ _ _ _ m l).trans ?_)⟩
    · unfold chunks at ih0 ⊢
      rw [ih0, Finset.sum_range_succ]
      congr 1
      refine Finset.sum_congr rfl fun j _ => ?_
      rw [rds_apply arg11 X11 _ _ m j k (t1_off ⟨k, hk⟩).2, t1_even_apply (ev := ev) arg1 arg12 X1 X12 T hev]
    · unfold chunks at ih1 ⊢
      rw [ih1, Finset.sum_range_succ]
      congr 1
      refine Finset.sum_congr rfl fun j _ => ?_
      rw [rds_apply arg11 X11 _ _ m j k (t1_off ⟨k, hk⟩).2, t1_odd_apply arg1 arg12 X1 X12 T hev]

/-- After `k` turns a column holds the sum over the first `k` chunks. -/
theorem t2_loop (T : Tables tl th) (hev : ∀ (ρ : Fin 32) (l : Fin 128), ev (ix2 ρ l) = if ρ.val % 2 = 0 then 1#1 else 0#1)
    (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole)
    (v1486 v1493 : FVec Ideal S8x128 .f32) (v1795 v1802 v1803 : IVec S3x128 32) (X1 : BufTy.Contents (Elt Ideal) arg1.view.ty) (X11 : BufTy.Contents (Elt Ideal) arg11.view.ty)
    (X12 : BufTy.Contents (Elt Ideal) arg12.view.ty) (k : ℕ) (hk : k ≤ 25) (m : Fin 16) (l : Fin 128) :
    st_k0_t2 Variants.none c none i arg1 harg1 arg2 harg2 arg3 harg3 arg4 harg4 arg5 harg5 arg6 harg6 arg7 harg7 arg8 harg8 arg9 harg9 arg10 harg10 arg11 harg11 arg12 harg12 tl th ev v1486 v1493 v1795 v1802 v1803 X1 X11 X12 k0_pay482 k (ix2 m ⟨l.val, by omega⟩)
        = chunks (arg1.view.read (Elt Ideal) X1) (arg11.view.read (Elt Ideal) X11) (arg12.view.read (Elt Ideal) X12) 1 0 k m.val l.val
      ∧ st_k0_t2 Variants.none c none i arg1 harg1 arg2 harg2 arg3 harg3 arg4 harg4 arg5 harg5 arg6 harg6 arg7 harg7 arg8 harg8 arg9 harg9 arg10 harg10 arg11 harg11 arg12 harg12 tl th ev v1486 v1493 v1795 v1802 v1803 X1 X11 X12 k0_pay482 k (ix2 m ⟨128 + l.val, by omega⟩)
        = chunks (arg1.view.read (Elt Ideal) X1) (arg11.view.read (Elt Ideal) X11) (arg12.view.read (Elt Ideal) X12) 1 1 k m.val l.val := by
  induction k with
  | zero =>
    rw [st_k0_t2_zero]
    unfold chunks
    rw [Finset.range_zero, Finset.sum_empty, Finset.sum_empty]
    exact ⟨Ideal.ofBits_zero_f32, Ideal.ofBits_zero_f32⟩
  | succ k ih =>
    obtain ⟨ih0, ih1⟩ := ih (by omega)
    have e := st_k0_t2_succ Variants.none c none i arg1 harg1 arg2 harg2 arg3 harg3 arg4 harg4 arg5 harg5 arg6 harg6 arg7 harg7 arg8 harg8 arg9 harg9 arg10 harg10 arg11 harg11 arg12 harg12 tl th ev v1486 v1493 v1795 v1802 v1803 X1 X11 X12 k0_pay482 (⟨k, hk⟩ : Fin k0_t2_loop.trips)
    have e' := e.trans (t2_trip c i arg1 harg1 arg2 harg2 arg3 harg3 arg4 harg4 arg5 harg5 arg6 harg6 arg7 harg7 arg8 harg8 arg9 harg9 arg10 harg10 arg11 harg11 arg12 harg12 v1486 v1493 v1795 v1802 v1803 X1 X11 X12 ⟨k, hk⟩ _)
    refine ⟨(congrFun e' _).trans ((turn_even _ _ _ _ m l).trans ?_), (congrFun e' _).trans ((turn_odd _ _ _ _ m l).trans ?_)⟩
    · unfold chunks at ih0 ⊢
      rw [ih0, Finset.sum_range_succ]
      congr 1
      refine Finset.sum_congr rfl fun j _ => ?_
      rw [rds_apply arg11 X11 _ _ m j k (t2_off ⟨k, hk⟩).2, t2_even_apply (ev := ev) arg1 arg12 X1 X12 T hev]
    · unfold chunks at ih1 ⊢
      rw [ih1, Finset.sum_range_succ]
      congr 1
      refine Finset.sum_congr rfl fun j _ => ?_
      rw [rds_apply arg11 X11 _ _ m j k (t2_off ⟨k, hk⟩).2, t2_odd_apply arg1 arg12 X1 X12 T hev]

end Loops

end Cert.KernelIdeal.Tile
-- ==== Proof.Runs.lean ====
/- THE KERNEL'S RUN in terms of the definitions of the other modules: the stores to the two scratches, and the four tiles
   each of the two kinds of grid point stores to the result. -/
module

public import proofs.«01_k».proof.Proof.Gen.KernelIdeal.Frame
public import proofs.«01_k».proof.Proof.Absmax
public import proofs.«01_k».proof.Proof.Shuffle

@[expose] public section

set_option maxRecDepth 16384

noncomputable section

namespace Cert.KernelIdeal.Absmax

open Idealize.ShloMosaic Idealize.SL.Sem Cert.KernelIdeal.Gen Cert.KernelIdeal.Tile

variable {F : FTy → Type} [FloatOps F]

/-- The stores of strip 0, from the blocks of codes, scales and offset. -/
def strip0 (i : grid0.Coords) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (x1 : Vec F S512x102 .i8) (x2 : Vec F S56x128 .f32) (x3 : Vec F S1 .f32) : List (View.Piece (Elt F) S2x2x2x56x2x128 .bf16) :=
  stores 0 (codesT (View.readAt (Elt F) arg2.view (Rect.unit (s := S512x102) ![0, 0] S256x102.size inb_S512x102_S256x102_0_0).toLoadRect (harg2.unread x1)))
    (scales (View.readAt (Elt F) arg3.view (Rect.unit (s := S56x128) (k0_off1 i 0#32) S1x128.size (k0_off1_inb i 0)).toLoadRect (harg3.unread x2)))
    (View.readAt (Elt F) arg4.view (Rect.unit (s := S1) ![0] S1.size inb_S1_S1_0).toLoadRect (harg4.unread x3) (Shape.Idx.first (by decide)))

/-- The stores of strip 1. -/
def strip1 (i : grid0.Coords) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (x1 : Vec F S512x102 .i8) (x2 : Vec F S56x128 .f32) (x3 : Vec F S1 .f32) : List (View.Piece (Elt F) S2x2x2x56x2x128 .bf16) :=
  stores 1 (codesT (View.readAt (Elt F) arg2.view (Rect.unit (s := S512x102) ![256, 0] S256x102.size inb_S512x102_S256x102_256_0).toLoadRect (harg2.unread x1)))
    (scales (View.readAt (Elt F) arg3.view (Rect.unit (s := S56x128) (k0_off1 i 1#32) S1x128.size (k0_off1_inb i 1)).toLoadRect (harg3.unread x2)))
    (View.readAt (Elt F) arg4.view (Rect.unit (s := S1) ![0] S1.size inb_S1_S1_0).toLoadRect (harg4.unread x3) (Shape.Idx.first (by decide)))

theorem half_A (c : Dev nD) (i : grid0.Coords) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (x1 : Vec F S512x102 .i8) (x2 : Vec F S56x128 .f32) (x3 : Vec F S1 .f32) :
    kernelRun0_A.sl.HS1_29 c i arg2 harg2 arg3 harg3 arg4 harg4 x1 x2 x3 = strip0 i arg2 harg2 arg3 harg3 arg4 harg4 x1 x2 x3 ++ [fill] := rfl

theorem half_B (c : Dev nD) (i : grid0.Coords) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (x1 : Vec F S512x102 .i8) (x2 : Vec F S56x128 .f32) (x3 : Vec F S1 .f32) :
    kernelRun0_B.sl.HS1_29 c i arg2 harg2 arg3 harg3 arg4 harg4 x1 x2 x3 = strip0 i arg2 harg2 arg3 harg3 arg4 harg4 x1 x2 x3 ++ [fill] := rfl

/-- All the stores to the absmax scratch, the last first. -/
def storesA (i : grid0.Coords) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (x1 : Vec F S512x102 .i8) (x2 : Vec F S56x128 .f32) (x3 : Vec F S1 .f32) : List (View.Piece (Elt F) S2x2x2x56x2x128 .bf16) :=
  strip1 i arg2 harg2 arg3 harg3 arg4 harg4 x1 x2 x3 ++ (strip0 i arg2 harg2 arg3 harg3 arg4 harg4 x1 x2 x3 ++ [fill])

/-- The tables as the kernel reads them, as words. -/
def table (arg : Memref sig .tc .vmem S32x128 .i8) (X : BufTy.Contents (Elt F) arg.view.ty) : IVec S32x128 32 :=
  extui 32 (shapeCast S32x128 (View.readAt (Elt F) arg.view (Rect.unit (s := S32x128) ![0, 0] S32x128.size inb_S32x128_S32x128_0_0).toLoadRect X)
    shapeCasts_S32x128_S32x128) natLt_8_32

/-- A read of one absmax row of a scratch written by the stores `L`. -/
def rdc (arg12 : Memref sig .tc .vmem S2x2x2x56x2x128 .bf16) (L : List (View.Piece (Elt F) S2x2x2x56x2x128 .bf16))
    (off : Fin 6 → ℕ) (h : ∀ a, off a + S1x1x1x1x2x128.size a ≤ S2x2x2x56x2x128.size a) : Vec F S1x1x1x1x2x128 .bf16 :=
  arg12.view.readCov L (Rect.unit (s := S2x2x2x56x2x128) off S1x1x1x1x2x128.size h).toLoadRect

theorem inbT (s e p : Fin 2) :
    ∀ a, (![s.val, e.val, p.val, 50, 0, 0] : Fin 6 → ℕ) a + S1x1x1x1x2x128.size a ≤ S2x2x2x56x2x128.size a := by
  intro a
  match a with
  | ⟨0, _⟩ => show s.val + 1 ≤ 2; omega
  | ⟨1, _⟩ => show e.val + 1 ≤ 2; omega
  | ⟨2, _⟩ => show p.val + 1 ≤ 2; omega
  | ⟨3, _⟩ => show 50 + 1 ≤ 56; omega
  | ⟨4, _⟩ => exact Nat.le_refl 2
  | ⟨5, _⟩ => exact Nat.le_refl 128

/-- A read of 128 columns of the second low-rank factor's block. -/
def rdb (arg7 : Memref sig .tc .vmem S16x512 .bf16) (X : BufTy.Contents (Elt F) arg7.view.ty) (q : Fin 4) : FVec F S16x128 .bf16 :=
  View.readAt (Elt F) arg7.view (Rect.unit (s := S16x512) ![0, 128 * q.val] S16x128.size (by
    intro a
    match a with
    | ⟨0, _⟩ => exact Nat.le_refl 16
    | ⟨1, _⟩ => show 128 * q.val + 128 ≤ 512; omega)).toLoadRect X

/-- A read of the last packed bytes of a strip. -/
def rdt (arg1 : Memref sig .tc .vmem S512x3264 .i8) (X : BufTy.Contents (Elt F) arg1.view.ty) (s : Fin 2) : Vec F S256x64 .i8 :=
  View.readAt (Elt F) arg1.view (Rect.unit (s := S512x3264) ![256 * s.val, 3200] S256x64.size (by
    intro a
    match a with
    | ⟨0, _⟩ => show 256 * s.val + 256 ≤ 512; omega
    | ⟨1, _⟩ => show 3200 + 64 ≤ 3264; omega)).toLoadRect X

/-- A strip's accumulator after the last chunk. -/
def accOf (s : Fin 2) (tl th : IVec S32x128 32) (st : FVec F S16x256 .f32) (x25 : Vec F S1x16x256 .bf16)
    (arg1 : Memref sig .tc .vmem S512x3264 .i8) (X1 : BufTy.Contents (Elt F) arg1.view.ty)
    (arg7 : Memref sig .tc .vmem S16x512 .bf16) (X7 : BufTy.Contents (Elt F) arg7.view.ty)
    (arg12 : Memref sig .tc .vmem S2x2x2x56x2x128 .bf16) (L : List (View.Piece (Elt F) S2x2x2x56x2x128 .bf16)) : FVec F S16x256 .f32 :=
  turn st x25
    (tailCols (tileE tl th) (wTt (rdt arg1 X1 s)) (rdc arg12 L ![s.val, 0, 0, 50, 0, 0] (inbT s 0 0)) (rdc arg12 L ![s.val, 0, 1, 50, 0, 0] (inbT s 0 1))
      (deintE (rdb arg7 X7 ⟨2 * s.val, by omega⟩) (rdb arg7 X7 ⟨2 * s.val + 1, by omega⟩)))
    (tailCols (tileO k0_pay391 tl th) (wTt (rdt arg1 X1 s)) (rdc arg12 L ![s.val, 1, 0, 50, 0, 0] (inbT s 1 0)) (rdc arg12 L ![s.val, 1, 1, 50, 0, 0] (inbT s 1 1))
      (deintO (rdb arg7 X7 ⟨2 * s.val, by omega⟩) (rdb arg7 X7 ⟨2 * s.val + 1, by omega⟩)))

/-- The four stores to the result's block, the last first. -/
def storesO (acc0 acc1 : FVec F S16x256 .f32) : List (View.Piece (Elt F) S16x512 .bf16) :=
  [⟨Rect.unit ![0, 384] S16x128.size inb_S16x512_S16x128_0_384, outTile acc1 64#32⟩,
    ⟨Rect.unit ![0, 256] S16x128.size inb_S16x512_S16x128_0_256, outTile acc1 0#32⟩,
    ⟨Rect.unit ![0, 128] S16x128.size inb_S16x512_S16x128_0_128, outTile acc0 64#32⟩,
    ⟨Rect.unit ![0, 0] S16x128.size inb_S16x512_S16x128_0_0, outTile acc0 0#32⟩]

/-- The activations' stores, from the blocks. -/
def storesS (arg5 : Memref sig .tc .vmem S16x6528 .bf16) (harg5 : arg5.IsWhole) (arg6 : Memref sig .tc .vmem S6528x16 .bf16) (harg6 : arg6.IsWhole)
    (x4 : Vec F S16x6528 .bf16) (x5 : Vec F S6528x16 .bf16) : List (View.Piece (Elt F) S26x16x256 .bf16) :=
  storesX arg5 (harg5.unread x4)
    (View.readAt (Elt F) arg5.view (Rect.unit (s := S16x6528) ![0, 0] S16x6528.size inb_S16x6528_S16x6528_0_0).toLoadRect (harg5.unread x4))
    (View.readAt (Elt F) arg6.view (Rect.unit (s := S6528x16) ![0, 0] S6528x16.size inb_S6528x16_S6528x16_0_0).toLoadRect (harg6.unread x5))

theorem storesS_A (c : Dev nD) (arg5 : Memref sig .tc .vmem S16x6528 .bf16) (harg5 : arg5.IsWhole) (arg6 : Memref sig .tc .vmem S6528x16 .bf16) (harg6 : arg6.IsWhole) (x4 : Vec F S16x6528 .bf16) (x5 : Vec F S6528x16 .bf16) :
    kernelRun0_A.sl.HS0_52 c arg5 harg5 arg6 harg6 x4 x5 = storesS arg5 harg5 arg6 harg6 x4 x5 := rfl

/-- Strip 0's accumulator at the first grid point. -/
def acc0_A (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (x0 : Vec F S512x3264 .i8) (x1 : Vec F S512x102 .i8) (x2 : Vec F S56x128 .f32) (x3 : Vec F S1 .f32) (x4 : Vec F S16x6528 .bf16) (x5 : Vec F S6528x16 .bf16) (x6 : Vec F S16x512 .bf16) (x7 : Vec F S32x128 .i8) (x8 : Vec F S32x128 .i8) : FVec F S16x256 .f32 :=
  accOf 0 (table arg8 (harg8.unread x7)) (table arg9 (harg9.unread x8))
    (st_k0_t1 Variants.none c none i arg1 harg1 arg2 harg2 arg3 harg3 arg4 harg4 arg5 harg5 arg6 harg6 arg7 harg7 arg8 harg8 arg9 harg9 arg10 harg10 arg11 harg11 arg12 harg12 (table arg8 (harg8.unread x7)) (table arg9 (harg9.unread x8)) k0_pay391 (kernelRun0_A.sl.r_44 c i arg2 harg2 arg3 harg3 arg4 harg4 x1 x2 x3) (kernelRun0_A.sl.r_45 c i arg2 harg2 arg3 harg3 arg4 harg4 x1 x2 x3)
      (harg1.unread x0) (arg11.view.writes (Elt F) arg11.view.junk (storesS arg5 harg5 arg6 harg6 x4 x5)) (arg12.view.writes (Elt F) arg12.view.junk (strip0 i arg2 harg2 arg3 harg3 arg4 harg4 x1 x2 x3 ++ [fill])) k0_pay482 25)
    (arg11.view.readCov (storesS arg5 harg5 arg6 harg6 x4 x5) (Rect.unit (s := S26x16x256) ![25, 0, 0] S1x16x256.size inb_S26x16x256_S1x16x256_25_0_0).toLoadRect) arg1 (harg1.unread x0) arg7 (harg7.unread x6) arg12 (strip0 i arg2 harg2 arg3 harg3 arg4 harg4 x1 x2 x3 ++ [fill])

/-- Strip 1's accumulator at the first grid point. -/
def acc1_A (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (x0 : Vec F S512x3264 .i8) (x1 : Vec F S512x102 .i8) (x2 : Vec F S56x128 .f32) (x3 : Vec F S1 .f32) (x4 : Vec F S16x6528 .bf16) (x5 : Vec F S6528x16 .bf16) (x6 : Vec F S16x512 .bf16) (x7 : Vec F S32x128 .i8) (x8 : Vec F S32x128 .i8) : FVec F S16x256 .f32 :=
  accOf 1 (table arg8 (harg8.unread x7)) (table arg9 (harg9.unread x8))
    (st_k0_t2 Variants.none c none i arg1 harg1 arg2 harg2 arg3 harg3 arg4 harg4 arg5 harg5 arg6 harg6 arg7 harg7 arg8 harg8 arg9 harg9 arg10 harg10 arg11 harg11 arg12 harg12 (table arg8 (harg8.unread x7)) (table arg9 (harg9.unread x8)) k0_pay391 (kernelRun0_A.sl.r_111 c i arg3 harg3 x2) (kernelRun0_A.sl.r_112 c i arg3 harg3 x2) (kernelRun0_A.sl.r_124 c arg2 harg2 x1) (k0_pay634 kernelRun0_A.sl.v20) (k0_pay635 (k0_pay608 kernelRun0_A.sl.v19))
      (harg1.unread x0) (arg11.view.writes (Elt F) arg11.view.junk (storesS arg5 harg5 arg6 harg6 x4 x5)) (arg12.view.writes (Elt F) arg12.view.junk (storesA i arg2 harg2 arg3 harg3 arg4 harg4 x1 x2 x3)) k0_pay482 25)
    (arg11.view.readCov (storesS arg5 harg5 arg6 harg6 x4 x5) (Rect.unit (s := S26x16x256) ![25, 0, 0] S1x16x256.size inb_S26x16x256_S1x16x256_25_0_0).toLoadRect) arg1 (harg1.unread x0) arg7 (harg7.unread x6) arg12 (storesA i arg2 harg2 arg3 harg3 arg4 harg4 x1 x2 x3)

theorem out_A (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (hc0 : cond0_0 i) (x0 : Vec F S512x3264 .i8) (x1 : Vec F S512x102 .i8) (x2 : Vec F S56x128 .f32) (x3 : Vec F S1 .f32) (x4 : Vec F S16x6528 .bf16) (x5 : Vec F S6528x16 .bf16) (x6 : Vec F S16x512 .bf16) (x7 : Vec F S32x128 .i8) (x8 : Vec F S32x128 .i8) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1
      = storesO (acc0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8) (acc1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8) := rfl

/-- Strip 0's accumulator at a later grid point. -/
def acc0_B (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (x0 : Vec F S512x3264 .i8) (x1 : Vec F S512x102 .i8) (x2 : Vec F S56x128 .f32) (x3 : Vec F S1 .f32) (x4 : Vec F S16x6528 .bf16) (x5 : Vec F S6528x16 .bf16) (x6 : Vec F S16x512 .bf16) (x7 : Vec F S32x128 .i8) (x8 : Vec F S32x128 .i8) (xs0 : Vec F S26x16x256 .bf16) : FVec F S16x256 .f32 :=
  accOf 0 (table arg8 (harg8.unread x7)) (table arg9 (harg9.unread x8))
    (st_k0_t1 Variants.none c none i arg1 harg1 arg2 harg2 arg3 harg3 arg4 harg4 arg5 harg5 arg6 harg6 arg7 harg7 arg8 harg8 arg9 harg9 arg10 harg10 arg11 harg11 arg12 harg12 (table arg8 (harg8.unread x7)) (table arg9 (harg9.unread x8)) k0_pay391 (kernelRun0_B.sl.r_44 c i arg2 harg2 arg3 harg3 arg4 harg4 x1 x2 x3) (kernelRun0_B.sl.r_45 c i arg2 harg2 arg3 harg3 arg4 harg4 x1 x2 x3)
      (harg1.unread x0) (harg11.unread xs0) (arg12.view.writes (Elt F) arg12.view.junk (strip0 i arg2 harg2 arg3 harg3 arg4 harg4 x1 x2 x3 ++ [fill])) k0_pay482 25)
    (View.readAt (Elt F) arg11.view (Rect.unit (s := S26x16x256) ![25, 0, 0] S1x16x256.size inb_S26x16x256_S1x16x256_25_0_0).toLoadRect (harg11.unread xs0)) arg1 (harg1.unread x0) arg7 (harg7.unread x6) arg12 (strip0 i arg2 harg2 arg3 harg3 arg4 harg4 x1 x2 x3 ++ [fill])

/-- Strip 1's accumulator at a later grid point. -/
def acc1_B (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (x0 : Vec F S512x3264 .i8) (x1 : Vec F S512x102 .i8) (x2 : Vec F S56x128 .f32) (x3 : Vec F S1 .f32) (x4 : Vec F S16x6528 .bf16) (x5 : Vec F S6528x16 .bf16) (x6 : Vec F S16x512 .bf16) (x7 : Vec F S32x128 .i8) (x8 : Vec F S32x128 .i8) (xs0 : Vec F S26x16x256 .bf16) : FVec F S16x256 .f32 :=
  accOf 1 (table arg8 (harg8.unread x7)) (table arg9 (harg9.unread x8))
    (st_k0_t2 Variants.none c none i arg1 harg1 arg2 harg2 arg3 harg3 arg4 harg4 arg5 harg5 arg6 harg6 arg7 harg7 arg8 harg8 arg9 harg9 arg10 harg10 arg11 harg11 arg12 harg12 (table arg8 (harg8.unread x7)) (table arg9 (harg9.unread x8)) k0_pay391 (kernelRun0_B.sl.r_111 c i arg3 harg3 x2) (kernelRun0_B.sl.r_112 c i arg3 harg3 x2) (kernelRun0_B.sl.r_124 c arg2 harg2 x1) (k0_pay634 kernelRun0_B.sl.v20) (k0_pay635 (k0_pay608 kernelRun0_B.sl.v19))
      (harg1.unread x0) (harg11.unread xs0) (arg12.view.writes (Elt F) arg12.view.junk (storesA i arg2 harg2 arg3 harg3 arg4 harg4 x1 x2 x3)) k0_pay482 25)
    (View.readAt (Elt F) arg11.view (Rect.unit (s := S26x16x256) ![25, 0, 0] S1x16x256.size inb_S26x16x256_S1x16x256_25_0_0).toLoadRect (harg11.unread xs0)) arg1 (harg1.unread x0) arg7 (harg7.unread x6) arg12 (storesA i arg2 harg2 arg3 harg3 arg4 harg4 x1 x2 x3)

theorem out_B (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (hc0 : ¬cond0_0 i) (x0 : Vec F S512x3264 .i8) (x1 : Vec F S512x102 .i8) (x2 : Vec F S56x128 .f32) (x3 : Vec F S1 .f32) (x4 : Vec F S16x6528 .bf16) (x5 : Vec F S6528x16 .bf16) (x6 : Vec F S16x512 .bf16) (x7 : Vec F S32x128 .i8) (x8 : Vec F S32x128 .i8) (xs0 : Vec F S26x16x256 .bf16) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0).1
      = storesO (acc0_B c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0) (acc1_B c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0) := rfl

end Cert.KernelIdeal.Absmax
-- ==== Proof.Scratch.lean ====
/- THE ABSMAX SCRATCH AFTER A STRIP'S STORES, index by index, from the blocks. -/
module

public import proofs.«01_k».proof.Proof.AbsmaxValue
public import proofs.«01_k».proof.Proof.Loop
public import proofs.«01_k».proof.Proof.Runs

@[expose] public section

set_option maxRecDepth 16384

noncomputable section

namespace Cert.KernelIdeal.Absmax

open Idealize.ShloMosaic Idealize.SL.Sem Cert.KernelIdeal.Gen Cert.KernelIdeal.Tile

/-! ## The canonical contents of two lists of stores -/

section Canon
variable {Val : EltTy → Type} [∀ e, Nonempty (Val e)] {s : Shape} {e : EltTy}

theorem canon_append_of_pieces (G : s.Idx → Val e) (R : List (View.Piece Val s e)) (y : s.Idx) :
    ∀ L : List (View.Piece Val s e), (∀ p ∈ L, ∀ x, p.2 x = G (p.1.emb x)) → (∃ p ∈ L, y ∈ p.1.set) → View.canon (L ++ R) y = G y
  | [], _, h => by obtain ⟨p, hp, _⟩ := h; exact absurd hp (List.not_mem_nil)
  | p :: L, hG, h => by
    by_cases hy : y ∈ p.1.set
    · obtain ⟨x, rfl⟩ := p.1.exists_idx_of_mem hy
      exact (View.canon_cons_emb p.1 p.2 (L ++ R) x).trans (hG p (List.mem_cons_self) x)
    · rw [List.cons_append, View.canon_cons_of_not_mem p _ hy]
      refine canon_append_of_pieces G R y L (fun q hq => hG q (List.mem_cons_of_mem _ hq)) ?_
      obtain ⟨q, hq, hqy⟩ := h
      rcases List.mem_cons.mp hq with rfl | hq
      · exact absurd hqy hy
      · exact ⟨q, hq, hqy⟩

end Canon

/-! ## A strip's stores -/

/-- What a strip's stores hold at an index. -/
def amIdx (X : Vec Ideal S256x102 .i8) (sc : Vec Ideal S1x128 .f32) (off : EReal) (y : S2x2x2x56x2x128.Idx) : EReal :=
  amv X sc off (2 * (y 5).val + (y 1).val) (2 * (y 3).val + (y 2).val)

theorem st8_agree (s : Fin 2) (X : Vec Ideal S256x102 .i8) (sc : Vec Ideal S1x128 .f32) (off : EReal) (e p : Fin 2) (t : Fin 6) :
    ∀ x, (st8 (F := Ideal) s (codesT X) (scales sc) off e p t).2 x
      = amIdx X sc off ((st8 (F := Ideal) s (codesT X) (scales sc) off e p t).1.emb x) := by
  intro x
  obtain ⟨z0, z1, z2, r, k, l, rfl⟩ : ∃ (z0 z1 z2 : Fin 1) (r : Fin 8) (k : Fin 2) (l : Fin 128), x = ix6 z0 z1 z2 r k l :=
    ⟨x 0, x 1, x 2, x 3, x 4, x 5, by funext q; fin_cases q <;> rfl⟩
  obtain rfl : z0 = 0 := Subsingleton.elim _ _
  obtain rfl : z1 = 0 := Subsingleton.elim _ _
  obtain rfl : z2 = 0 := Subsingleton.elim _ _
  refine (twice8_apply _ r k l).trans ((tile8_apply X sc off e p t r l).trans ?_)
  unfold amIdx
  show _ = amv X sc off (2 * (0 + 1 * l.val) + (e.val + 1 * 0)) (2 * (8 * t.val + 1 * r.val) + (p.val + 1 * 0))
  congr 1 <;> omega

theorem st3_agree (s : Fin 2) (X : Vec Ideal S256x102 .i8) (sc : Vec Ideal S1x128 .f32) (off : EReal) (e p : Fin 2) :
    ∀ x, (st3 (F := Ideal) s (codesT X) (scales sc) off e p).2 x
      = amIdx X sc off ((st3 (F := Ideal) s (codesT X) (scales sc) off e p).1.emb x) := by
  intro x
  obtain ⟨z0, z1, z2, r, k, l, rfl⟩ : ∃ (z0 z1 z2 : Fin 1) (r : Fin 3) (k : Fin 2) (l : Fin 128), x = ix6 z0 z1 z2 r k l :=
    ⟨x 0, x 1, x 2, x 3, x 4, x 5, by funext q; fin_cases q <;> rfl⟩
  obtain rfl : z0 = 0 := Subsingleton.elim _ _
  obtain rfl : z1 = 0 := Subsingleton.elim _ _
  obtain rfl : z2 = 0 := Subsingleton.elim _ _
  refine (twice3_apply _ r k l).trans ((tile3_apply X sc off e p r l).trans ?_)
  unfold amIdx
  show _ = amv X sc off (2 * (0 + 1 * l.val) + (e.val + 1 * 0)) (2 * (48 + 1 * r.val) + (p.val + 1 * 0))
  congr 1 <;> omega

theorem stores_cases {P : View.Piece (Elt Ideal) S2x2x2x56x2x128 .bf16 → Prop} (s : Fin 2) (y : IVec S102x128 16)
    (scr : FVec Ideal S8x128 .f32) (off : EReal) (h8 : ∀ e p t, P (st8 s y scr off e p t)) (h3 : ∀ e p, P (st3 s y scr off e p)) :
    ∀ q ∈ stores s y scr off, P q := by
  intro q hq
  rcases List.mem_append.mp hq with hq | hq <;>
  · simp only [stores1, List.mem_cons, List.not_mem_nil, or_false] at hq
    rcases hq with rfl | rfl | rfl | rfl | rfl | rfl | rfl | rfl | rfl | rfl | rfl | rfl | rfl | rfl
    all_goals first | exact h8 _ _ _ | exact h3 _ _

theorem st8_mem (s : Fin 2) (y : IVec S102x128 16) (scr : FVec Ideal S8x128 .f32) (off : EReal) (e p : Fin 2) (t : Fin 6) :
    st8 (F := Ideal) s y scr off e p t ∈ stores s y scr off := by
  unfold stores stores1
  fin_cases e <;> fin_cases p <;> fin_cases t <;> simp

theorem st3_mem (s : Fin 2) (y : IVec S102x128 16) (scr : FVec Ideal S8x128 .f32) (off : EReal) (e p : Fin 2) :
    st3 (F := Ideal) s y scr off e p ∈ stores s y scr off := by
  unfold stores stores1
  fin_cases e <;> fin_cases p <;> simp

/-- The strip's own rows after its stores. -/
theorem stores_canon (s : Fin 2) (X : Vec Ideal S256x102 .i8) (sc : Vec Ideal S1x128 .f32) (off : EReal)
    (R : List (View.Piece (Elt Ideal) S2x2x2x56x2x128 .bf16)) (e p : Fin 2) (b : Fin 56) (hb : b.val < 51) (l : Fin 128) :
    View.canon (stores s (codesT X) (scales sc) off ++ R) (ix6 s e p b 0 l) = amv X sc off (2 * l.val + e.val) (2 * b.val + p.val) := by
  refine canon_append_of_pieces (amIdx X sc off) R _ _
    (stores_cases (P := fun q => ∀ x, q.2 x = amIdx X sc off (q.1.emb x)) s _ _ _ (st8_agree s X sc off) (st3_agree s X sc off)) ?_
  by_cases h : b.val < 48
  · refine ⟨_, st8_mem s _ _ off e p ⟨b.val / 8, by omega⟩, ?_⟩
    have : ix6 s e p b 0 l = (st8 (F := Ideal) s (codesT X) (scales sc) off e p ⟨b.val / 8, by omega⟩).1.emb
        (ix6 (0 : Fin 1) (0 : Fin 1) (0 : Fin 1) (⟨b.val % 8, by omega⟩ : Fin 8) (0 : Fin 2) l) := by
      funext q
      match q with
      | ⟨0, _⟩ => exact Fin.ext (show s.val = s.val + 1 * 0 by omega)
      | ⟨1, _⟩ => exact Fin.ext (show e.val = e.val + 1 * 0 by omega)
      | ⟨2, _⟩ => exact Fin.ext (show p.val = p.val + 1 * 0 by omega)
      | ⟨3, _⟩ => exact Fin.ext (show b.val = 8 * (b.val / 8) + 1 * (b.val % 8) by omega)
      | ⟨4, _⟩ => rfl
      | ⟨5, _⟩ => exact Fin.ext (show l.val = 0 + 1 * l.val by omega)
    rw [this]
    exact LoadRect.idx_mem _ _
  · refine ⟨_, st3_mem s _ _ off e p, ?_⟩
    have : ix6 s e p b 0 l = (st3 (F := Ideal) s (codesT X) (scales sc) off e p).1.emb
        (ix6 (0 : Fin 1) (0 : Fin 1) (0 : Fin 1) (⟨b.val - 48, by omega⟩ : Fin 3) (0 : Fin 2) l) := by
      funext q
      match q with
      | ⟨0, _⟩ => exact Fin.ext (show s.val = s.val + 1 * 0 by omega)
      | ⟨1, _⟩ => exact Fin.ext (show e.val = e.val + 1 * 0 by omega)
      | ⟨2, _⟩ => exact Fin.ext (show p.val = p.val + 1 * 0 by omega)
      | ⟨3, _⟩ => exact Fin.ext (show b.val = 48 + 1 * (b.val - 48) by omega)
      | ⟨4, _⟩ => rfl
      | ⟨5, _⟩ => exact Fin.ext (show l.val = 0 + 1 * l.val by omega)
    rw [this]
    exact LoadRect.idx_mem _ _

/-! ## From the blocks -/

/-- The absmax of row `ρ` of strip `s` of the block and quantisation block `k`. -/
def amAt (i : grid0.Coords) (x1 : Vec Ideal S512x102 .i8) (x2 : Vec Ideal S56x128 .f32) (x3 : Vec Ideal S1 .f32) (s ρ k : ℕ) : EReal :=
  FloatOps.sitofp (F := Ideal) .f32 (x1 (ix2 (Fin.ofNat 512 (256 * s + ρ)) (Fin.ofNat 102 k)))
    * x2 (ix2 (Fin.ofNat 56 (2 * (i 0).val + s)) (Fin.ofNat 128 ((102 * ρ + k) / 256))) + x3 (ix1 0)

theorem off1_bits : ∀ (t : Fin 27) (s : Fin 2),
    (Scalar.indexCast (Scalar.addi (Scalar.muli (BitVec.ofNat 32 t.val) 2#32) (BitVec.ofNat 32 s.val)) : BitVec 32).toNat = 2 * t.val + s.val := by
  decide +kernel

theorem off1_apply (i : grid0.Coords) (s : Fin 2) : k0_off1 i (BitVec.ofNat 32 s.val) = ![2 * (i 0).val + s.val, 0] := by
  funext a
  match a with
  | ⟨0, _⟩ => exact off1_bits (i 0) s
  | ⟨1, _⟩ => rfl

theorem strip0_canon (i : grid0.Coords) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole)
    (x1 : Vec Ideal S512x102 .i8) (x2 : Vec Ideal S56x128 .f32) (x3 : Vec Ideal S1 .f32)
    (R : List (View.Piece (Elt Ideal) S2x2x2x56x2x128 .bf16)) (e p : Fin 2) (b : Fin 56) (hb : b.val < 51) (l : Fin 128) :
    View.canon (strip0 i arg2 harg2 arg3 harg3 arg4 harg4 x1 x2 x3 ++ R) (ix6 0 e p b 0 l) = amAt i x1 x2 x3 0 (2 * l.val + e.val) (2 * b.val + p.val) := by
  have hi : (i 0).val < 27 := (i 0).isLt
  refine (stores_canon 0 _ _ _ R e p b hb l).trans ?_
  unfold amv amAt
  congr 1
  · congr 1
    · congr 1
      show arg2.view.read (Elt Ideal) (harg2.unread x1) _ = _
      rw [harg2.read_unread]
      congr 1
      funext q
      match q with
      | ⟨0, _⟩ => apply Fin.ext; show 0 + 1 * ((2 * l.val + e.val) % 256) = (256 * 0 + (2 * l.val + e.val)) % 512; omega
      | ⟨1, _⟩ => apply Fin.ext; show 0 + 1 * ((2 * b.val + p.val) % 102) = (2 * b.val + p.val) % 102; omega
    · show arg3.view.read (Elt Ideal) (harg3.unread x2) _ = _
      rw [harg3.read_unread]
      congr 1
      have h0 : k0_off1 i 0#32 0 = 2 * (i 0).val + 0 := congrFun (off1_apply i 0) 0
      have h1 : k0_off1 i 0#32 1 = 0 := congrFun (off1_apply i 0) 1
      funext q
      match q with
      | ⟨0, _⟩ =>
        apply Fin.ext
        show k0_off1 i 0#32 0 + 1 * 0 = (2 * (i 0).val + 0) % 56
        rw [h0]; omega
      | ⟨1, _⟩ =>
        apply Fin.ext
        show k0_off1 i 0#32 1 + 1 * ((102 * (2 * l.val + e.val) + (2 * b.val + p.val)) / 256 % 128) = (102 * (2 * l.val + e.val) + (2 * b.val + p.val)) / 256 % 128
        rw [h1]; omega
  · show arg4.view.read (Elt Ideal) (harg4.unread x3) _ = _
    rw [harg4.read_unread]
    congr 1
    funext q
    match q with
    | ⟨0, _⟩ => rfl

theorem strip1_canon (i : grid0.Coords) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole)
    (x1 : Vec Ideal S512x102 .i8) (x2 : Vec Ideal S56x128 .f32) (x3 : Vec Ideal S1 .f32)
    (R : List (View.Piece (Elt Ideal) S2x2x2x56x2x128 .bf16)) (e p : Fin 2) (b : Fin 56) (hb : b.val < 51) (l : Fin 128) :
    View.canon (strip1 i arg2 harg2 arg3 harg3 arg4 harg4 x1 x2 x3 ++ R) (ix6 1 e p b 0 l) = amAt i x1 x2 x3 1 (2 * l.val + e.val) (2 * b.val + p.val) := by
  have hi : (i 0).val < 27 := (i 0).isLt
  refine (stores_canon 1 _ _ _ R e p b hb l).trans ?_
  unfold amv amAt
  congr 1
  · congr 1
    · congr 1
      show arg2.view.read (Elt Ideal) (harg2.unread x1) _ = _
      rw [harg2.read_unread]
      congr 1
      funext q
      match q with
      | ⟨0, _⟩ => apply Fin.ext; show 256 + 1 * ((2 * l.val + e.val) % 256) = (256 * 1 + (2 * l.val + e.val)) % 512; omega
      | ⟨1, _⟩ => apply Fin.ext; show 0 + 1 * ((2 * b.val + p.val) % 102) = (2 * b.val + p.val) % 102; omega
    · show arg3.view.read (Elt Ideal) (harg3.unread x2) _ = _
      rw [harg3.read_unread]
      congr 1
      have h0 : k0_off1 i 1#32 0 = 2 * (i 0).val + 1 := congrFun (off1_apply i 1) 0
      have h1 : k0_off1 i 1#32 1 = 0 := congrFun (off1_apply i 1) 1
      funext q
      match q with
      | ⟨0, _⟩ =>
        apply Fin.ext
        show k0_off1 i 1#32 0 + 1 * 0 = (2 * (i 0).val + 1) % 56
        rw [h0]; omega
      | ⟨1, _⟩ =>
        apply Fin.ext
        show k0_off1 i 1#32 1 + 1 * ((102 * (2 * l.val + e.val) + (2 * b.val + p.val)) / 256 % 128) = (102 * (2 * l.val + e.val) + (2 * b.val + p.val)) / 256 % 128
        rw [h1]; omega
  · show arg4.view.read (Elt Ideal) (harg4.unread x3) _ = _
    rw [harg4.read_unread]
    congr 1
    funext q
    match q with
    | ⟨0, _⟩ => rfl

theorem gA_at (A : Vec Ideal S2x2x2x56x2x128 .bf16) (s e p b l : ℕ) (hs : s < 2) (he : e < 2) (hp : p < 2) (hb : b < 56) (hl : l < 128) :
    gA A s e p b l = A (ix6 ⟨s, hs⟩ ⟨e, he⟩ ⟨p, hp⟩ ⟨b, hb⟩ 0 ⟨l, hl⟩) := by
  unfold gA
  have e0 : Fin.ofNat 2 s = ⟨s, hs⟩ := Fin.ext (Nat.mod_eq_of_lt hs)
  have e1 : Fin.ofNat 2 e = ⟨e, he⟩ := Fin.ext (Nat.mod_eq_of_lt he)
  have e2 : Fin.ofNat 2 p = ⟨p, hp⟩ := Fin.ext (Nat.mod_eq_of_lt hp)
  have e3 : Fin.ofNat 56 b = ⟨b, hb⟩ := Fin.ext (Nat.mod_eq_of_lt hb)
  have e4 : Fin.ofNat 128 l = ⟨l, hl⟩ := Fin.ext (Nat.mod_eq_of_lt hl)
  rw [e0, e1, e2, e3, e4]

/-- Strip 0's absmaxes when only its stores are made. -/
theorem half_canon (i : grid0.Coords) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole)
    (x1 : Vec Ideal S512x102 .i8) (x2 : Vec Ideal S56x128 .f32) (x3 : Vec Ideal S1 .f32)
    (e p b l : ℕ) (he : e < 2) (hp : p < 2) (hb : b < 51) (hl : l < 128) :
    gA (View.canon (strip0 i arg2 harg2 arg3 harg3 arg4 harg4 x1 x2 x3 ++ [fill])) 0 e p b l = amAt i x1 x2 x3 0 (2 * l + e) (2 * b + p) := by
  have h := strip0_canon i arg2 harg2 arg3 harg3 arg4 harg4 x1 x2 x3 [fill] ⟨e, he⟩ ⟨p, hp⟩ ⟨b, by omega⟩ hb ⟨l, hl⟩
  exact (gA_at _ _ _ _ _ _ (by decide) he hp (by omega) hl).trans h

/-- Strip 1's absmaxes when all the stores are made. -/
theorem whole_canon (i : grid0.Coords) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole)
    (x1 : Vec Ideal S512x102 .i8) (x2 : Vec Ideal S56x128 .f32) (x3 : Vec Ideal S1 .f32)
    (e p b l : ℕ) (he : e < 2) (hp : p < 2) (hb : b < 51) (hl : l < 128) :
    gA (View.canon (storesA i arg2 harg2 arg3 harg3 arg4 harg4 x1 x2 x3)) 1 e p b l = amAt i x1 x2 x3 1 (2 * l + e) (2 * b + p) := by
  have h := strip1_canon i arg2 harg2 arg3 harg3 arg4 harg4 x1 x2 x3 (strip0 i arg2 harg2 arg3 harg3 arg4 harg4 x1 x2 x3 ++ [fill]) ⟨e, he⟩ ⟨p, hp⟩ ⟨b, by omega⟩ hb ⟨l, hl⟩
  exact (gA_at _ _ _ _ _ _ (by decide) he hp (by omega) hl).trans h

end Cert.KernelIdeal.Absmax
-- ==== Proof.ShuffleValue.lean ====
/- THE LANE SHUFFLES AT AN INDEX: the even and odd lanes taken apart and put together again, and what the activation
   scratch holds after its stores. -/
module

public import proofs.«01_k».proof.Proof.Scratch

@[expose] public section

set_option maxRecDepth 16384

noncomputable section

namespace Cert.KernelIdeal.Tile

open Idealize.ShloMosaic Idealize.SL.Sem Cert.KernelIdeal.Gen

/-! ## The lanes -/

theorem twice_bits : ∀ l : Fin 128, IntOp.andi (IntOp.muli (2#32) (BitVec.ofNat 32 l.val)) 127#32 = BitVec.ofNat 32 (2 * l.val % 128) := by
  decide +kernel

theorem odd_bits : ∀ l : Fin 128, IntOp.addi (BitVec.ofNat 32 (2 * l.val % 128)) 1#32 = BitVec.ofNat 32 (2 * l.val % 128 + 1) := by
  decide +kernel

theorem half_bits : ∀ l : Fin 128, IntOp.cmpi CmpIPredicate.slt (BitVec.ofNat 32 l.val) 64#32 = if l.val < 64 then 1#1 else 0#1 := by
  decide +kernel

theorem parity_bits : ∀ l : Fin 128, IntOp.cmpi CmpIPredicate.eq (IntOp.andi (BitVec.ofNat 32 l.val) 1#32) 0#32 = if l.val % 2 = 0 then 1#1 else 0#1 := by
  decide +kernel

theorem down_bits : ∀ (q : Fin 2) (l : Fin 128),
    IntOp.addi (IntOp.shrsi ArithUnit.vector (BitVec.ofNat 32 l.val) 1#32) (BitVec.ofNat 32 (64 * q.val)) = BitVec.ofNat 32 (64 * q.val + l.val / 2) := by
  decide +kernel

theorem tail_bits : ∀ l : Fin 128, Scalar.select (if l.val < 64 then 1#1 else 0#1) (IntOp.muli (2#32) (BitVec.ofNat 32 l.val))
    (IntOp.addi (IntOp.muli (2#32) (IntOp.subi (BitVec.ofNat 32 l.val) 64#32)) 1#32) = BitVec.ofNat 32 (2 * (l.val % 64) + l.val / 64) := by
  decide +kernel

theorem twice_apply (m : Fin 16) (l : Fin 128) : twice (ix2 m l) = BitVec.ofNat 32 (2 * l.val % 128) := by
  unfold twice lanes
  pointwise
  exact twice_bits l

theorem firstHalf_apply (m : Fin 16) (l : Fin 128) : firstHalf (ix2 m l) = if l.val < 64 then 1#1 else 0#1 := by
  unfold firstHalf lanes
  pointwise
  exact half_bits l

theorem glane_apply (x : FVec Ideal S16x128 .bf16) (g : IVec S16x128 32) (m : Fin 16) (l : Fin 128) (n : ℕ) (hn : n < 128)
    (hg : g (ix2 m l) = BitVec.ofNat 32 n) : glane x g (ix2 m l) = x (ix2 m ⟨n, hn⟩) := by
  unfold glane
  pointwise
  congr 2
  apply Fin.ext
  dsimp only
  rw [hg, BitVec.toNat_ofNat]
  omega

theorem deintE_apply (a b : FVec Ideal S16x128 .bf16) (m : Fin 16) (l : Fin 128) :
    deintE a b (ix2 m l) = if l.val < 64 then a (ix2 m ⟨2 * l.val % 128, by omega⟩) else b (ix2 m ⟨2 * l.val % 128, by omega⟩) := by
  unfold deintE
  pointwise
  rw [glane_apply _ _ m l _ (by omega) (twice_apply m l), glane_apply _ _ m l _ (by omega) (twice_apply m l), firstHalf_apply]
  split <;> rfl

theorem deintO_apply (a b : FVec Ideal S16x128 .bf16) (m : Fin 16) (l : Fin 128) :
    deintO a b (ix2 m l)
      = if l.val < 64 then a (ix2 m ⟨2 * l.val % 128 + 1, by omega⟩) else b (ix2 m ⟨2 * l.val % 128 + 1, by omega⟩) := by
  have h : addi twice (broadcast S16x128 1#32) (ix2 m l) = BitVec.ofNat 32 (2 * l.val % 128 + 1) := by
    pointwise
    rw [twice_apply]
    exact odd_bits l
  unfold deintO
  pointwise
  rw [glane_apply _ _ m l _ (by omega) h, glane_apply _ _ m l _ (by omega) h, firstHalf_apply]
  split <;> rfl

theorem interl_apply (q : Fin 2) (e o : FVec Ideal S16x128 .bf16) (m : Fin 16) (l : Fin 128) :
    interl (BitVec.ofNat 32 (64 * q.val)) e o (ix2 m l)
      = if l.val % 2 = 0 then e (ix2 m ⟨64 * q.val + l.val / 2, by omega⟩) else o (ix2 m ⟨64 * q.val + l.val / 2, by omega⟩) := by
  have h : addi (shrsi lanes (broadcast S16x128 1#32)) (broadcast S16x128 (BitVec.ofNat 32 (64 * q.val))) (ix2 m l)
      = BitVec.ofNat 32 (64 * q.val + l.val / 2) := by
    unfold lanes
    pointwise
    exact down_bits q l
  have h2 : cmpi .eq (andi lanes (broadcast S16x128 1#32)) (broadcast S16x128 0#32) (ix2 m l) = if l.val % 2 = 0 then 1#1 else 0#1 := by
    unfold lanes
    pointwise
    exact parity_bits l
  unfold interl
  show Scalar.select _ _ _ = _
  rw [glane_apply _ _ m l _ (by omega) h, glane_apply _ _ m l _ (by omega) h, h2]
  split <;> rfl

/-- A tile of the result: the even rows' half of the accumulator at the even lanes, the odd rows' at the odd. -/
theorem outTile_apply (acc : FVec Ideal S16x256 .f32) (q : Fin 2) (m : Fin 16) (l : Fin 128) :
    outTile acc (BitVec.ofNat 32 (64 * q.val)) (ix2 m l)
      = if l.val % 2 = 0 then acc (ix2 m ⟨64 * q.val + l.val / 2, by omega⟩) else acc (ix2 m ⟨128 + (64 * q.val + l.val / 2), by omega⟩) := by
  unfold outTile
  rw [interl_apply]
  pointwise

theorem tailX_apply (x : FVec Ideal S16x128 .bf16) (m : Fin 16) (l : Fin 128) :
    tailX x (ix2 m l) = x (ix2 m ⟨2 * (l.val % 64) + l.val / 64, by omega⟩) := by
  unfold tailX
  refine glane_apply _ _ m l _ (by omega) ?_
  show Scalar.select _ _ _ = _
  rw [firstHalf_apply]
  unfold lanes
  pointwise
  exact tail_bits l

theorem loraX_lo (x : FVec Ideal S16x6528 .bf16) (la : FVec Ideal S6528x16 .bf16) (m r : Fin 16) :
    loraX x la (ix2 m ⟨r.val, by omega⟩) = (∑ k : Fin 6528, x (ix2 m k) * la (ix2 k r)) * Ideal.ofBits .bf16 0x4000#16 := by
  unfold loraX
  pointwise

theorem loraX_hi (x : FVec Ideal S16x6528 .bf16) (la : FVec Ideal S6528x16 .bf16) (m : Fin 16) (r : Fin 112) :
    loraX x la (ix2 m ⟨16 + r.val, by omega⟩) = 0 := by
  unfold loraX
  pointwise

/-! ## The activation scratch -/

/-- The activations at a token and a column. -/
def gx (x : Vec Ideal S16x6528 .bf16) (m k : ℕ) : EReal := x (ix2 (Fin.ofNat 16 m) (Fin.ofNat 6528 k))

/-- What the activation scratch holds: the even activations of a chunk, then the odd ones; last, the remaining ones and
    twice the activations times the first low-rank factor. -/
def xsv (x : Vec Ideal S16x6528 .bf16) (la : Vec Ideal S6528x16 .bf16) (c m j : ℕ) : EReal :=
  if c < 25 then gx x m (256 * c + 2 * (j % 128) + j / 128)
  else if j < 128 then gx x m (6400 + 2 * (j % 64) + j / 64)
  else if j < 144 then (∑ k : Fin 6528, gx x m k.val * la (ix2 k (Fin.ofNat 16 (j - 128)))) * Ideal.ofBits .bf16 0x4000#16
  else 0

theorem gx_at (x : Vec Ideal S16x6528 .bf16) (m k : ℕ) (hm : m < 16) (hk : k < 6528) : gx x m k = x (ix2 ⟨m, hm⟩ ⟨k, hk⟩) := by
  unfold gx
  have e0 : Fin.ofNat 16 m = ⟨m, hm⟩ := Fin.ext (Nat.mod_eq_of_lt hm)
  have e1 : Fin.ofNat 6528 k = ⟨k, hk⟩ := Fin.ext (Nat.mod_eq_of_lt hk)
  rw [e0, e1]

theorem one_apply (x : FVec Ideal S16x128 .bf16) (m : Fin 16) (j : Fin 128) : one x (ix3 0 m j) = x (ix2 m j) := by
  unfold one
  pointwise

theorem same_apply (x : FVec Ideal S16x128 .bf16) (m : Fin 16) (j : Fin 128) : same x (ix2 m j) = x (ix2 m j) := by
  unfold same
  pointwise

theorem rdx_apply (arg5 : Memref sig .tc .vmem S16x6528 .bf16) (X : BufTy.Contents (Elt Ideal) arg5.view.ty) (c : Fin 51)
    (m : Fin 16) (j : Fin 128) : rdx arg5 X c (ix2 m j) = gx (arg5.view.read (Elt Ideal) X) m.val (128 * c.val + j.val) := by
  rw [gx_at _ _ _ m.isLt (by omega)]
  show arg5.view.read (Elt Ideal) X _ = arg5.view.read (Elt Ideal) X _
  congr 1
  funext q
  match q with
  | ⟨0, _⟩ => exact Fin.ext (show 0 + 1 * m.val = m.val by omega)
  | ⟨1, _⟩ => exact Fin.ext (show 128 * c.val + 1 * j.val = 128 * c.val + j.val by omega)

section StoresX
variable (x : Vec Ideal S16x6528 .bf16) (la : Vec Ideal S6528x16 .bf16)

def xsIdx (y : S26x16x256.Idx) : EReal := xsv x la (y 0).val (y 1).val (y 2).val

theorem stx_agree (c : Fin 26) (h : Fin 2) (w : Vec Ideal S1x16x128 .bf16)
    (hw : ∀ (m : Fin 16) (j : Fin 128), w (ix3 0 m j) = xsv x la c.val m.val (128 * h.val + j.val)) :
    ∀ z, (stx (F := Ideal) c h w).2 z = xsIdx x la ((stx (F := Ideal) c h w).1.emb z) := by
  intro z
  obtain ⟨z0, m, j, rfl⟩ : ∃ (z0 : Fin 1) (m : Fin 16) (j : Fin 128), z = ix3 z0 m j :=
    ⟨z 0, z 1, z 2, by funext q; fin_cases q <;> rfl⟩
  obtain rfl : z0 = 0 := Subsingleton.elim _ _
  refine (hw m j).trans ?_
  unfold xsIdx
  show _ = xsv x la (c.val + 1 * 0) (0 + 1 * m.val) (128 * h.val + 1 * j.val)
  congr 1 <;> omega

variable (arg5 : Memref sig .tc .vmem S16x6528 .bf16) (X : BufTy.Contents (Elt Ideal) arg5.view.ty)

theorem chunk_even (hx : arg5.view.read (Elt Ideal) X = x) (c : Fin 25) (m : Fin 16) (j : Fin 128) :
    one (deintE (same (rdx arg5 X ⟨2 * c.val, by omega⟩)) (same (rdx arg5 X ⟨2 * c.val + 1, by omega⟩))) (ix3 0 m j)
      = xsv x la c.val m.val (128 * 0 + j.val) := by
  rw [one_apply, deintE_apply, same_apply, same_apply, rdx_apply, rdx_apply, hx]
  unfold xsv
  rw [if_pos c.isLt]
  split
  · congr 1; dsimp only; omega
  · congr 1; dsimp only; omega

theorem chunk_odd (hx : arg5.view.read (Elt Ideal) X = x) (c : Fin 25) (m : Fin 16) (j : Fin 128) :
    one (deintO (same (rdx arg5 X ⟨2 * c.val, by omega⟩)) (same (rdx arg5 X ⟨2 * c.val + 1, by omega⟩))) (ix3 0 m j)
      = xsv x la c.val m.val (128 * 1 + j.val) := by
  rw [one_apply, deintO_apply, same_apply, same_apply, rdx_apply, rdx_apply, hx]
  unfold xsv
  rw [if_pos c.isLt]
  split
  · congr 1; dsimp only; omega
  · congr 1; dsimp only; omega

theorem chunk_tail (hx : arg5.view.read (Elt Ideal) X = x) (m : Fin 16) (j : Fin 128) :
    one (tailX (same (rdx arg5 X 50))) (ix3 0 m j) = xsv x la 25 m.val (128 * 0 + j.val) := by
  rw [one_apply, tailX_apply, same_apply, rdx_apply, hx]
  unfold xsv
  rw [if_neg (by omega), if_pos (by omega)]
  congr 1
  show 128 * 50 + (2 * (j.val % 64) + j.val / 64) = _
  omega

theorem chunk_lora (m : Fin 16) (j : Fin 128) : one (F := Ideal) (loraX x la) (ix3 0 m j) = xsv x la 25 m.val (128 * 1 + j.val) := by
  rw [one_apply]
  unfold xsv
  rw [if_neg (by omega), if_neg (by omega)]
  by_cases h : j.val < 16
  · rw [if_pos (by omega)]
    refine (loraX_lo x la m ⟨j.val, h⟩).trans ?_
    have e : Fin.ofNat 16 (128 * 1 + j.val - 128) = ⟨j.val, h⟩ := Fin.ext (show (128 * 1 + j.val - 128) % 16 = j.val by omega)
    rw [e]
    congr 1
    refine Finset.sum_congr rfl fun k _ => ?_
    rw [gx_at x _ _ m.isLt k.isLt]
  · rw [if_neg (by omega)]
    refine Eq.trans ?_ (loraX_hi x la m ⟨j.val - 16, by omega⟩)
    congr 2
    exact Fin.ext (show j.val = 16 + (j.val - 16) by omega)

theorem storesX_cases {P : View.Piece (Elt Ideal) S26x16x256 .bf16 → Prop} (h1 : P (stx 25 1 (one (loraX x la))))
    (h0 : P (stx 25 0 (one (tailX (same (rdx arg5 X 50)))))) (hc : ∀ c, ∀ q ∈ stc arg5 X c, P q) :
    ∀ q ∈ storesX arg5 X x la, P q := by
  intro q hq
  unfold storesX at hq
  rcases List.mem_cons.mp hq with rfl | hq
  · exact h1
  rcases List.mem_cons.mp hq with rfl | hq
  · exact h0
  obtain ⟨c, _, hq⟩ := List.mem_flatMap.mp hq
  exact hc c q hq

theorem all25 : ∀ c : Fin 25, c ∈ ([24, 23, 22, 21, 20, 19, 18, 17, 16, 15, 14, 13, 12, 11, 10, 9, 8, 7, 6, 5, 4, 3, 2, 1, 0] : List (Fin 25)) := by
  decide

/-- Every chunk and half has its store. -/
theorem stx_mem (c : Fin 26) (h : Fin 2) : ∃ w, stx (F := Ideal) c h w ∈ storesX arg5 X x la := by
  unfold storesX
  by_cases hc : c.val < 25
  · match h with
    | ⟨0, _⟩ =>
      exact ⟨_, List.mem_cons_of_mem _ (List.mem_cons_of_mem _ (List.mem_flatMap.mpr ⟨⟨c.val, hc⟩, all25 _,
        List.mem_cons_of_mem _ (List.mem_cons_self)⟩))⟩
    | ⟨1, _⟩ =>
      exact ⟨_, List.mem_cons_of_mem _ (List.mem_cons_of_mem _ (List.mem_flatMap.mpr ⟨⟨c.val, hc⟩, all25 _, List.mem_cons_self⟩))⟩
  · obtain rfl : c = 25 := Fin.ext (show c.val = 25 by omega)
    match h with
    | ⟨0, _⟩ => exact ⟨_, List.mem_cons_of_mem _ List.mem_cons_self⟩
    | ⟨1, _⟩ => exact ⟨_, List.mem_cons_self⟩

/-- The scratch after its stores. -/
theorem storesX_canon (hx : arg5.view.read (Elt Ideal) X = x) (c m j : ℕ) (hc : c < 26) (hm : m < 16) (hj : j < 256) :
    gS (View.canon (storesX arg5 X x la)) c m j = xsv x la c m j := by
  unfold gS
  have e0 : Fin.ofNat 26 c = ⟨c, hc⟩ := Fin.ext (Nat.mod_eq_of_lt hc)
  have e1 : Fin.ofNat 16 m = ⟨m, hm⟩ := Fin.ext (Nat.mod_eq_of_lt hm)
  have e2 : Fin.ofNat 256 j = ⟨j, hj⟩ := Fin.ext (Nat.mod_eq_of_lt hj)
  rw [e0, e1, e2]
  refine View.canon_apply_of_pieces (xsIdx x la) (storesX arg5 X x la) (storesX_cases x la arg5 X
    (P := fun q => ∀ z, q.2 z = xsIdx x la (q.1.emb z)) ?_ ?_ ?_) _ ?_
  · exact stx_agree x la 25 1 _ (chunk_lora x la)
  · exact stx_agree x la 25 0 _ (chunk_tail x la arg5 X hx)
  · intro c q hq
    unfold stc at hq
    rcases List.mem_cons.mp hq with rfl | hq
    · exact stx_agree x la _ 1 _ (chunk_odd x la arg5 X hx c)
    · obtain rfl := List.mem_singleton.mp hq
      exact stx_agree x la _ 0 _ (chunk_even x la arg5 X hx c)
  · obtain ⟨w, hw⟩ := stx_mem x la arg5 X ⟨c, hc⟩ ⟨j / 128, by omega⟩
    refine ⟨_, hw, ?_⟩
    have : ix3 ⟨c, hc⟩ ⟨m, hm⟩ ⟨j, hj⟩ = (stx (F := Ideal) ⟨c, hc⟩ ⟨j / 128, by omega⟩ w).1.emb
        (ix3 (0 : Fin 1) (⟨m, hm⟩ : Fin 16) (⟨j % 128, by omega⟩ : Fin 128)) := by
      funext q
      match q with
      | ⟨0, _⟩ => exact Fin.ext (show c = c + 1 * 0 by omega)
      | ⟨1, _⟩ => exact Fin.ext (show m = 0 + 1 * m by omega)
      | ⟨2, _⟩ => exact Fin.ext (show j = 128 * (j / 128) + 1 * (j % 128) by omega)
    rw [this]
    exact LoadRect.idx_mem _ _

end StoresX

end Cert.KernelIdeal.Tile
-- ==== Proof.Acc.lean ====
/- A STRIP'S ACCUMULATOR AND THE BLOCK'S TILES AT AN INDEX. -/
module

public import proofs.«01_k».proof.Proof.ShuffleValue

@[expose] public section

set_option maxRecDepth 16384

noncomputable section

namespace Cert.KernelIdeal.Absmax

open Idealize.ShloMosaic Idealize.SL.Sem Cert.KernelIdeal.Gen Cert.KernelIdeal.Tile

/-! ## The reads of the last chunk -/

/-- The second low-rank factor's block. -/
def gB (b : Vec Ideal S16x512 .bf16) (r o : ℕ) : EReal := b (ix2 (Fin.ofNat 16 r) (Fin.ofNat 512 o))

theorem gB_at (b : Vec Ideal S16x512 .bf16) (r o : ℕ) (hr : r < 16) (ho : o < 512) : gB b r o = b (ix2 ⟨r, hr⟩ ⟨o, ho⟩) := by
  unfold gB
  have e0 : Fin.ofNat 16 r = ⟨r, hr⟩ := Fin.ext (Nat.mod_eq_of_lt hr)
  have e1 : Fin.ofNat 512 o = ⟨o, ho⟩ := Fin.ext (Nat.mod_eq_of_lt ho)
  rw [e0, e1]

theorem gX_at (X : Vec Ideal S512x3264 .i8) (r c : ℕ) (hr : r < 512) (hc : c < 3264) : gX X r c = X (ix2 ⟨r, hr⟩ ⟨c, hc⟩) := by
  unfold gX
  have e0 : Fin.ofNat 512 r = ⟨r, hr⟩ := Fin.ext (Nat.mod_eq_of_lt hr)
  have e1 : Fin.ofNat 3264 c = ⟨c, hc⟩ := Fin.ext (Nat.mod_eq_of_lt hc)
  rw [e0, e1]

theorem rdb_apply (arg7 : Memref sig .tc .vmem S16x512 .bf16) (X : BufTy.Contents (Elt Ideal) arg7.view.ty) (q : Fin 4)
    (r : Fin 16) (j : Fin 128) : rdb arg7 X q (ix2 r j) = gB (arg7.view.read (Elt Ideal) X) r.val (128 * q.val + j.val) := by
  rw [gB_at _ _ _ r.isLt (by omega)]
  show arg7.view.read (Elt Ideal) X _ = arg7.view.read (Elt Ideal) X _
  congr 1
  funext a
  match a with
  | ⟨0, _⟩ => exact Fin.ext (show 0 + 1 * r.val = r.val by omega)
  | ⟨1, _⟩ => exact Fin.ext (show 128 * q.val + 1 * j.val = 128 * q.val + j.val by omega)

theorem rdt_apply (arg1 : Memref sig .tc .vmem S512x3264 .i8) (X : BufTy.Contents (Elt Ideal) arg1.view.ty) (s : Fin 2)
    (a b : ℕ) (ha : a < 256) (hb : b < 64) :
    rdt arg1 X s (ix2 ⟨a, ha⟩ ⟨b, hb⟩) = gX (arg1.view.read (Elt Ideal) X) (256 * s.val + a) (3200 + b) := by
  rw [gX_at _ _ _ (by omega) (by omega)]
  show arg1.view.read (Elt Ideal) X _ = arg1.view.read (Elt Ideal) X _
  congr 1
  funext q
  match q with
  | ⟨0, _⟩ => exact Fin.ext (show 256 * s.val + 1 * a = 256 * s.val + a by omega)
  | ⟨1, _⟩ => exact Fin.ext (show 3200 + 1 * b = 3200 + b by omega)

theorem rdc_apply (arg12 : Memref sig .tc .vmem S2x2x2x56x2x128 .bf16) (L : List (View.Piece (Elt Ideal) S2x2x2x56x2x128 .bf16))
    (s e p : Fin 2) (l : Fin 128) :
    rdc arg12 L ![s.val, e.val, p.val, 50, 0, 0] (inbT s e p) (ix6 0 0 0 0 0 l) = gA (View.canon L) s.val e.val p.val 50 l.val := by
  rw [gA_at _ _ _ _ _ _ s.isLt e.isLt p.isLt (by decide) l.isLt]
  unfold rdc
  rw [View.readCov_eq_canon']
  show View.canon L _ = View.canon L _
  congr 1
  funext q
  match q with
  | ⟨0, _⟩ => exact Fin.ext (show s.val + 1 * 0 = s.val by omega)
  | ⟨1, _⟩ => exact Fin.ext (show e.val + 1 * 0 = e.val by omega)
  | ⟨2, _⟩ => exact Fin.ext (show p.val + 1 * 0 = p.val by omega)
  | ⟨3, _⟩ => rfl
  | ⟨4, _⟩ => rfl
  | ⟨5, _⟩ => exact Fin.ext (show 0 + 1 * l.val = l.val by omega)

/-! ## The last chunk -/

/-- Row `j` of the last chunk's columns, at row `2l+e` of strip `s`. -/
def tterm (X : Vec Ideal S512x3264 .i8) (A : Vec Ideal S2x2x2x56x2x128 .bf16) (B : Vec Ideal S16x512 .bf16) (s e l j : ℕ) : EReal :=
  if j < 128 then Ideal.ofBits .bf16 (lv (nib (j / 64) (gX X (256 * s + 2 * l + e) (3200 + j % 64)))) * gA A s e (j % 64 / 32) 50 l
  else if j < 144 then gB B (j - 128) (256 * s + 2 * l + e)
  else 0

section Tail
variable {tl th : IVec S32x128 32}

theorem tailE_apply (T : Tables tl th) (Y : Vec Ideal S256x64 .i8) (r0 r1 : Vec Ideal S1x1x1x1x2x128 .bf16) (le : FVec Ideal S16x128 .bf16)
    (n : Fin 16) (r : Fin 16) (l : Fin 128) :
    tailCols (tileE tl th) (wTt Y) r0 r1 le (ix2 ⟨16 * n.val + r.val, by omega⟩ l)
      = if n.val < 8 then Ideal.ofBits .bf16 (lv (nib (n.val / 4) (Y (ix2 ⟨2 * l.val + 0, by omega⟩ ⟨16 * (n.val % 4) + r.val, by omega⟩))))
          * (![r0, r1] : Fin 2 → Vec Ideal S1x1x1x1x2x128 .bf16) ⟨(n.val % 4) / 2, by omega⟩ (ix6 0 0 0 0 0 l)
        else if n.val = 8 then le (ix2 r l) else 0 := by
  unfold tailCols
  rw [stack_apply]
  have e : ∀ (o : ℕ) (ho : o + 16 ≤ 64) (h : S64x128.Slices ![o, 0] S16x128),
      bitcast S32x128 8 (wdt (wTt Y) o h) bitcasts_S8x128_w32_S32x128_w8 (ix2 ⟨2 * r.val, by omega⟩ l)
        = Y (ix2 ⟨2 * l.val, by omega⟩ ⟨o + r.val, by omega⟩) := by
    intro o ho h
    unfold wdt
    rw [word_byte_t Y o ho h]
    congr 1
    refine congrArg₂ ix2 (Fin.ext ?_) (Fin.ext ?_) <;> dsimp only <;> omega
  fin_cases n <;> first
    | (refine (tileE_apply T _ _ r l).trans ?_
       rw [amRow_apply]
       first
         | (rw [hiNib_apply, e _ (by omega)]; rfl)
         | (rw [loNib_apply, e _ (by omega)]; rfl))
    | rfl
    | exact Ideal.ofBits_zero_bf16

theorem tailO_apply (T : Tables tl th) {ev : IVec S32x128 1}
    (hev : ∀ (ρ : Fin 32) (l : Fin 128), ev (ix2 ρ l) = if ρ.val % 2 = 0 then 1#1 else 0#1)
    (Y : Vec Ideal S256x64 .i8) (r0 r1 : Vec Ideal S1x1x1x1x2x128 .bf16) (le : FVec Ideal S16x128 .bf16)
    (n : Fin 16) (r : Fin 16) (l : Fin 128) :
    tailCols (tileO ev tl th) (wTt Y) r0 r1 le (ix2 ⟨16 * n.val + r.val, by omega⟩ l)
      = if n.val < 8 then Ideal.ofBits .bf16 (lv (nib (n.val / 4) (Y (ix2 ⟨2 * l.val + 1, by omega⟩ ⟨16 * (n.val % 4) + r.val, by omega⟩))))
          * (![r0, r1] : Fin 2 → Vec Ideal S1x1x1x1x2x128 .bf16) ⟨(n.val % 4) / 2, by omega⟩ (ix6 0 0 0 0 0 l)
        else if n.val = 8 then le (ix2 r l) else 0 := by
  unfold tailCols
  rw [stack_apply]
  have e : ∀ (o : ℕ) (ho : o + 16 ≤ 64) (h : S64x128.Slices ![o, 0] S16x128),
      bitcast S32x128 8 (wdt (wTt Y) o h) bitcasts_S8x128_w32_S32x128_w8 (ix2 ⟨2 * r.val + 1, by omega⟩ l)
        = Y (ix2 ⟨2 * l.val + 1, by omega⟩ ⟨o + r.val, by omega⟩) := by
    intro o ho h
    unfold wdt
    rw [word_byte_t Y o ho h]
    congr 1
    refine congrArg₂ ix2 (Fin.ext ?_) (Fin.ext ?_) <;> dsimp only <;> omega
  fin_cases n <;> first
    | (refine (tileO_apply T hev _ _ r l).trans ?_
       rw [amRow_apply]
       first
         | (rw [hiNib_apply, e _ (by omega)]; rfl)
         | (rw [loNib_apply, e _ (by omega)]; rfl))
    | rfl
    | exact Ideal.ofBits_zero_bf16

/-- Either parity's columns as `tterm`. -/
theorem tail_term {C : FVec Ideal S256x128 .bf16} {X : Vec Ideal S512x3264 .i8} {A : Vec Ideal S2x2x2x56x2x128 .bf16} {B : Vec Ideal S16x512 .bf16}
    {s e : ℕ} (he : e < 2) {Y : Vec Ideal S256x64 .i8} {r0 r1 : Vec Ideal S1x1x1x1x2x128 .bf16} {le : FVec Ideal S16x128 .bf16} (l : Fin 128)
    (hC : ∀ n r : Fin 16, C (ix2 ⟨16 * n.val + r.val, by omega⟩ l)
      = if n.val < 8 then Ideal.ofBits .bf16 (lv (nib (n.val / 4) (Y (ix2 ⟨2 * l.val + e, by omega⟩ ⟨16 * (n.val % 4) + r.val, by omega⟩))))
          * (![r0, r1] : Fin 2 → Vec Ideal S1x1x1x1x2x128 .bf16) ⟨(n.val % 4) / 2, by omega⟩ (ix6 0 0 0 0 0 l)
        else if n.val = 8 then le (ix2 r l) else 0)
    (hY : ∀ b (hb : b < 64), Y (ix2 ⟨2 * l.val + e, by omega⟩ ⟨b, hb⟩) = gX X (256 * s + 2 * l.val + e) (3200 + b))
    (h0 : r0 (ix6 0 0 0 0 0 l) = gA A s e 0 50 l.val) (h1 : r1 (ix6 0 0 0 0 0 l) = gA A s e 1 50 l.val)
    (hl : ∀ r : Fin 16, le (ix2 r l) = gB B r.val (256 * s + 2 * l.val + e)) (j : Fin 256) :
    C (ix2 j l) = tterm X A B s e l.val j.val := by
  have hj := hC ⟨j.val / 16, by omega⟩ ⟨j.val % 16, by omega⟩
  have ej : (⟨16 * (j.val / 16) + j.val % 16, by omega⟩ : Fin 256) = j := Fin.ext (by dsimp only; omega)
  dsimp only at hj
  rw [ej] at hj
  rw [hj]
  unfold tterm
  by_cases a : j.val < 128
  · rw [if_pos (by omega), if_pos a, hY]
    have e1 : j.val / 16 / 4 = j.val / 64 := by omega
    have e2 : 16 * (j.val / 16 % 4) + j.val % 16 = j.val % 64 := by omega
    rw [e1, e2]
    congr 1
    have e3 : j.val / 16 % 4 / 2 = j.val % 64 / 32 := by omega
    obtain ⟨q, hq⟩ : ∃ q : Fin 2, q.val = j.val % 64 / 32 := ⟨⟨_, by omega⟩, rfl⟩
    have e5 : (⟨j.val / 16 % 4 / 2, by omega⟩ : Fin 2) = q := Fin.ext (by dsimp only; omega)
    rw [e5, ← hq]
    match q with
    | ⟨0, _⟩ => exact h0
    | ⟨1, _⟩ => exact h1
  · rw [if_neg (by omega), if_neg a]
    by_cases b : j.val < 144
    · rw [if_pos (by omega), if_pos b, hl]
      have e1 : j.val % 16 = j.val - 128 := by omega
      dsimp only
      rw [e1]
    · rw [if_neg (by omega), if_neg b]

/-- The even rows' columns of an accumulator. -/
theorem accOf_even (T : Tables tl th) (s : Fin 2) (st : FVec Ideal S16x256 .f32) (x25 : Vec Ideal S1x16x256 .bf16)
    (arg1 : Memref sig .tc .vmem S512x3264 .i8) (X1 : BufTy.Contents (Elt Ideal) arg1.view.ty)
    (arg7 : Memref sig .tc .vmem S16x512 .bf16) (X7 : BufTy.Contents (Elt Ideal) arg7.view.ty)
    (arg12 : Memref sig .tc .vmem S2x2x2x56x2x128 .bf16) (L : List (View.Piece (Elt Ideal) S2x2x2x56x2x128 .bf16)) (m : Fin 16) (l : Fin 128) :
    accOf s tl th st x25 arg1 X1 arg7 X7 arg12 L (ix2 m ⟨l.val, by omega⟩) = st (ix2 m ⟨l.val, by omega⟩)
      + ∑ j : Fin 256, x25 (ix3 0 m j) * tterm (arg1.view.read (Elt Ideal) X1) (View.canon L) (arg7.view.read (Elt Ideal) X7) s.val 0 l.val j.val := by
  unfold accOf
  rw [turn_even]
  congr 1
  refine Finset.sum_congr rfl fun j _ => ?_
  congr 1
  refine tail_term (by decide) l (fun n r => tailE_apply T _ _ _ _ n r l) (fun b hb => ?_) (rdc_apply arg12 L s 0 0 l) (rdc_apply arg12 L s 0 1 l)
    (fun r => ?_) j
  · rw [rdt_apply arg1 X1 s _ b _ hb, Nat.add_assoc (256 * s.val)]
  · rw [deintE_apply, rdb_apply, rdb_apply]
    split
    · congr 1; dsimp only; omega
    · congr 1; dsimp only; omega

/-- The odd rows' columns. -/
theorem accOf_odd (T : Tables tl th)
    (hev : ∀ (ρ : Fin 32) (l : Fin 128), k0_pay391 (ix2 ρ l) = if ρ.val % 2 = 0 then 1#1 else 0#1) (s : Fin 2) (st : FVec Ideal S16x256 .f32) (x25 : Vec Ideal S1x16x256 .bf16)
    (arg1 : Memref sig .tc .vmem S512x3264 .i8) (X1 : BufTy.Contents (Elt Ideal) arg1.view.ty)
    (arg7 : Memref sig .tc .vmem S16x512 .bf16) (X7 : BufTy.Contents (Elt Ideal) arg7.view.ty)
    (arg12 : Memref sig .tc .vmem S2x2x2x56x2x128 .bf16) (L : List (View.Piece (Elt Ideal) S2x2x2x56x2x128 .bf16)) (m : Fin 16) (l : Fin 128) :
    accOf s tl th st x25 arg1 X1 arg7 X7 arg12 L (ix2 m ⟨128 + l.val, by omega⟩) = st (ix2 m ⟨128 + l.val, by omega⟩)
      + ∑ j : Fin 256, x25 (ix3 0 m j) * tterm (arg1.view.read (Elt Ideal) X1) (View.canon L) (arg7.view.read (Elt Ideal) X7) s.val 1 l.val j.val := by
  unfold accOf
  rw [turn_odd]
  congr 1
  refine Finset.sum_congr rfl fun j _ => ?_
  congr 1
  refine tail_term (by decide) l (fun n r => tailO_apply T hev _ _ _ _ n r l) (fun b hb => ?_) (rdc_apply arg12 L s 1 0 l) (rdc_apply arg12 L s 1 1 l)
    (fun r => ?_) j
  · rw [rdt_apply arg1 X1 s _ b _ hb, Nat.add_assoc (256 * s.val)]
  · rw [deintO_apply, rdb_apply, rdb_apply]
    split
    · congr 1; dsimp only; omega
    · congr 1; dsimp only; omega

end Tail

/-- The tests of a row's parity. -/
theorem ev_apply (ρ : Fin 32) (l : Fin 128) : k0_pay391 (ix2 ρ l) = if ρ.val % 2 = 0 then 1#1 else 0#1 := by
  unfold k0_pay391
  pointwise
  revert ρ
  decide +kernel

end Cert.KernelIdeal.Absmax
-- ==== Proof.Block.lean ====
/- THE BLOCK A GRID POINT STORES, at an index: the sum over the packed bytes of activation times dequantised weight, plus
   the low-rank part, both kinds of grid point. -/
module

public import proofs.«01_k».proof.Proof.Acc

@[expose] public section

set_option maxRecDepth 16384

noncomputable section

namespace Cert.KernelIdeal.Absmax

open Idealize.ShloMosaic Idealize.SL.Sem Cert.KernelIdeal.Gen Cert.KernelIdeal.Tile

/-- The dequantised weight of nibble `h` of byte `k` of row `ρ` of strip `s`. -/
def wv (x0 : Vec Ideal S512x3264 .i8) (am : ℕ → ℕ → ℕ → EReal) (s ρ h k : ℕ) : EReal :=
  Ideal.ofBits .bf16 (lv (nib h (gX x0 (256 * s + ρ) k))) * am s ρ (k / 32)

/-- A result of the block: row `2l+e` of strip `s`. -/
def kval (x0 : Vec Ideal S512x3264 .i8) (am : ℕ → ℕ → ℕ → EReal) (xsf : ℕ → ℕ → ℕ → EReal) (x6 : Vec Ideal S16x512 .bf16) (s e m l : ℕ) : EReal :=
  (∑ c ∈ Finset.range 25, ∑ j : Fin 256, xsf c m j.val * wv x0 am s (2 * l + e) (j.val / 128) (128 * c + j.val % 128))
    + ∑ j : Fin 256, xsf 25 m j.val * (if j.val < 128 then wv x0 am s (2 * l + e) (j.val / 64) (3200 + j.val % 64)
        else if j.val < 144 then gB x6 (j.val - 128) (256 * s + (2 * l + e)) else 0)

section Kval
variable {x0 : Vec Ideal S512x3264 .i8} {am : ℕ → ℕ → ℕ → EReal} {xsf : ℕ → ℕ → ℕ → EReal} {x6 : Vec Ideal S16x512 .bf16}
  {S : Vec Ideal S26x16x256 .bf16} {A : Vec Ideal S2x2x2x56x2x128 .bf16} {s : ℕ}

theorem chunks_kval (hA : ∀ e p b l, e < 2 → p < 2 → b < 51 → l < 128 → gA A s e p b l = am s (2 * l + e) (2 * b + p))
    (hS : ∀ c m j, c < 26 → m < 16 → j < 256 → gS S c m j = xsf c m j) (e m l : ℕ) (he : e < 2) (hm : m < 16) (hl : l < 128) :
    chunks x0 S A s e 25 m l
      = ∑ c ∈ Finset.range 25, ∑ j : Fin 256, xsf c m j.val * wv x0 am s (2 * l + e) (j.val / 128) (128 * c + j.val % 128) := by
  unfold chunks
  refine Finset.sum_congr rfl fun c hc => Finset.sum_congr rfl fun j _ => ?_
  have hc' := Finset.mem_range.mp hc
  rw [hS c m j.val (by omega) hm j.isLt]
  unfold term wv
  rw [hA e _ _ l he (by omega) (by omega) hl]
  have e1 : 2 * (2 * c + j.val % 128 / 64) + j.val % 128 / 32 % 2 = (128 * c + j.val % 128) / 32 := by omega
  have e2 : 256 * s + 2 * l + e = 256 * s + (2 * l + e) := by omega
  rw [e1, e2]

theorem tterm_kval (hA : ∀ e p b l, e < 2 → p < 2 → b < 51 → l < 128 → gA A s e p b l = am s (2 * l + e) (2 * b + p))
    (e l j : ℕ) (he : e < 2) (hl : l < 128) :
    tterm x0 A x6 s e l j = if j < 128 then wv x0 am s (2 * l + e) (j / 64) (3200 + j % 64)
        else if j < 144 then gB x6 (j - 128) (256 * s + (2 * l + e)) else 0 := by
  unfold tterm
  have e2 : 256 * s + 2 * l + e = 256 * s + (2 * l + e) := by omega
  rw [e2]
  split
  · unfold wv
    rw [hA e _ _ l he (by omega) (by omega) hl]
    have e1 : 2 * 50 + j % 64 / 32 = (3200 + j % 64) / 32 := by omega
    rw [e1]
  · rfl

theorem acc_kval {tl th : IVec S32x128 32} (T : Tables tl th) (s : Fin 2) {st : FVec Ideal S16x256 .f32} {x25 : Vec Ideal S1x16x256 .bf16}
    {arg1 : Memref sig .tc .vmem S512x3264 .i8} {X1 : BufTy.Contents (Elt Ideal) arg1.view.ty}
    {arg7 : Memref sig .tc .vmem S16x512 .bf16} {X7 : BufTy.Contents (Elt Ideal) arg7.view.ty}
    {arg12 : Memref sig .tc .vmem S2x2x2x56x2x128 .bf16} {L : List (View.Piece (Elt Ideal) S2x2x2x56x2x128 .bf16)}
    (h0 : arg1.view.read (Elt Ideal) X1 = x0) (h6 : arg7.view.read (Elt Ideal) X7 = x6)
    (hA : ∀ e p b l, e < 2 → p < 2 → b < 51 → l < 128 → gA (View.canon L) s.val e p b l = am s.val (2 * l + e) (2 * b + p))
    (hS : ∀ c m j, c < 26 → m < 16 → j < 256 → gS S c m j = xsf c m j)
    (h25 : ∀ (m : Fin 16) (j : Fin 256), x25 (ix3 0 m j) = xsf 25 m.val j.val)
    (hst : ∀ (m : Fin 16) (l : Fin 128), st (ix2 m ⟨l.val, by omega⟩) = chunks x0 S (View.canon L) s.val 0 25 m.val l.val
      ∧ st (ix2 m ⟨128 + l.val, by omega⟩) = chunks x0 S (View.canon L) s.val 1 25 m.val l.val) (m : Fin 16) (l : Fin 128) :
    accOf s tl th st x25 arg1 X1 arg7 X7 arg12 L (ix2 m ⟨l.val, by omega⟩) = kval x0 am xsf x6 s.val 0 m.val l.val
      ∧ accOf s tl th st x25 arg1 X1 arg7 X7 arg12 L (ix2 m ⟨128 + l.val, by omega⟩) = kval x0 am xsf x6 s.val 1 m.val l.val := by
  constructor
  · rw [accOf_even T, (hst m l).1, chunks_kval hA hS 0 m.val l.val (by decide) m.isLt l.isLt, h0, h6]
    unfold kval
    congr 1
    refine Finset.sum_congr rfl fun j _ => ?_
    rw [h25, tterm_kval hA 0 l.val j.val (by decide) l.isLt]
  · rw [accOf_odd T ev_apply, (hst m l).2, chunks_kval hA hS 1 m.val l.val (by decide) m.isLt l.isLt, h0, h6]
    unfold kval
    congr 1
    refine Finset.sum_congr rfl fun j _ => ?_
    rw [h25, tterm_kval hA 1 l.val j.val (by decide) l.isLt]

end Kval

/-! ## The tables -/

/-- The two tables of level bytes, one level a lane. -/
def TableBytes (x7 x8 : Vec Ideal S32x128 .i8) : Prop :=
  ∀ (ρ : Fin 32) (j : Fin 128), x7 (ix2 ρ j) = (lv (BitVec.ofNat 8 j.val)).setWidth 8 ∧ x8 (ix2 ρ j) = (lv (BitVec.ofNat 8 j.val) >>> 8).setWidth 8

theorem table_apply (arg : Memref sig .tc .vmem S32x128 .i8) (harg : arg.IsWhole) (x : Vec Ideal S32x128 .i8) (ρ : Fin 32) (j : Fin 128) :
    table arg (harg.unread x) (ix2 ρ j) = (x (ix2 ρ j)).setWidth 32 := by
  unfold table
  pointwise
  show BitVec.setWidth 32 (arg.view.read (Elt Ideal) (harg.unread x) _) = _
  rw [harg.read_unread]
  congr 2
  funext q
  match q with
  | ⟨0, _⟩ => exact Fin.ext (show 0 + 1 * ρ.val = ρ.val by omega)
  | ⟨1, _⟩ => exact Fin.ext (show 0 + 1 * j.val = j.val by omega)

theorem tables_of {arg8 : Memref sig .tc .vmem S32x128 .i8} (harg8 : arg8.IsWhole) {arg9 : Memref sig .tc .vmem S32x128 .i8} (harg9 : arg9.IsWhole)
    {x7 x8 : Vec Ideal S32x128 .i8} (h : TableBytes x7 x8) : Tables (table arg8 (harg8.unread x7)) (table arg9 (harg9.unread x8)) where
  lo ρ j := by rw [table_apply, (h ρ j).1]; exact BitVec.setWidth_setWidth_of_le _ (by decide)
  hi ρ j := by rw [table_apply, (h ρ j).2]; exact BitVec.setWidth_setWidth_of_le _ (by decide)

/-! ## The stores to the result -/

/-- What the result's block holds at an index, from the two accumulators. -/
def outIdx (a0 a1 : FVec Ideal S16x256 .f32) (y : S16x512.Idx) : EReal :=
  (if (y 1).val / 256 = 0 then a0 else a1) (ix2 (y 0) (⟨128 * ((y 1).val % 2) + (y 1).val % 256 / 2, by
    have := (y 1).isLt
    omega⟩ : Fin 256))

theorem out_piece (a0 a1 : FVec Ideal S16x256 .f32) (s q : Fin 2) (off : ℕ) (hoff : off = 256 * s.val + 128 * q.val) (m : Fin 16) (j : Fin 128)
    (h : ∀ a, (![0, off] : Fin 2 → ℕ) a + S16x128.size a ≤ S16x512.size a) :
    outTile (if s = 0 then a0 else a1) (BitVec.ofNat 32 (64 * q.val)) (ix2 m j)
      = outIdx a0 a1 ((Rect.unit (s := S16x512) ![0, off] S16x128.size h).emb (ix2 m j)) := by
  rw [outTile_apply]
  have hs := s.isLt
  have hq := q.isLt
  have e : (Rect.unit (s := S16x512) ![0, off] S16x128.size h).emb (ix2 m j) = ix2 m (⟨256 * s.val + 128 * q.val + j.val, by omega⟩ : Fin 512) := by
    funext a
    match a with
    | ⟨0, _⟩ => exact Fin.ext (show 0 + 1 * m.val = m.val by omega)
    | ⟨1, _⟩ => exact Fin.ext (show off + 1 * j.val = 256 * s.val + 128 * q.val + j.val by omega)
  rw [e]
  show _ = (if (256 * s.val + 128 * q.val + j.val) / 256 = 0 then a0 else a1) (ix2 m ⟨128 * ((256 * s.val + 128 * q.val + j.val) % 2) + (256 * s.val + 128 * q.val + j.val) % 256 / 2, _⟩)
  have e1 : ((256 * s.val + 128 * q.val + j.val) / 256 = 0) = (s = 0) := propext ⟨fun h => Fin.ext (show s.val = 0 by omega), fun h => by subst h; show (256 * 0 + 128 * q.val + j.val) / 256 = 0; omega⟩
  simp only [e1]
  split
  · refine congrArg _ (congrArg (ix2 m) (Fin.ext ?_)); dsimp only; omega
  · refine congrArg _ (congrArg (ix2 m) (Fin.ext ?_)); dsimp only; omega

theorem out_mem (off : ℕ) (h : ∀ a, (![0, off] : Fin 2 → ℕ) a + S16x128.size a ≤ S16x512.size a) (m : Fin 16) (o : Fin 512) (h1 : off ≤ o.val) (h2 : o.val < off + 128) :
    ix2 m o ∈ (Rect.unit (s := S16x512) ![0, off] S16x128.size h).set := by
  have e : ix2 m o = (Rect.unit (s := S16x512) ![0, off] S16x128.size h).emb (ix2 m (⟨o.val - off, by omega⟩ : Fin 128)) := by
    funext a
    match a with
    | ⟨0, _⟩ => exact Fin.ext (show m.val = 0 + 1 * m.val by omega)
    | ⟨1, _⟩ => exact Fin.ext (show o.val = off + 1 * (o.val - off) by omega)
  rw [e]
  exact LoadRect.idx_mem _ _

theorem storesO_canon (a0 a1 : FVec Ideal S16x256 .f32) (m : Fin 16) (o : Fin 512) :
    View.canon (storesO a0 a1) (ix2 m o) = (if o.val / 256 = 0 then a0 else a1) (ix2 m ⟨128 * (o.val % 2) + o.val % 256 / 2, by omega⟩) := by
  refine (View.canon_apply_of_pieces (Val := Elt Ideal) (outIdx a0 a1) (storesO a0 a1) ?_ (ix2 m o) ?_).trans rfl
  · intro p hp
    unfold storesO at hp
    simp only [List.mem_cons, List.not_mem_nil, or_false] at hp
    rcases hp with rfl | rfl | rfl | rfl <;> intro z <;>
      obtain ⟨m', j, rfl⟩ : ∃ (m' : Fin 16) (j : Fin 128), z = ix2 m' j := ⟨z 0, z 1, by funext q; fin_cases q <;> rfl⟩
    · exact out_piece a0 a1 1 1 384 rfl m' j inb_S16x512_S16x128_0_384
    · exact out_piece a0 a1 1 0 256 rfl m' j inb_S16x512_S16x128_0_256
    · exact out_piece a0 a1 0 1 128 rfl m' j inb_S16x512_S16x128_0_128
    · exact out_piece a0 a1 0 0 0 rfl m' j inb_S16x512_S16x128_0_0
  · have hq : o.val < 128 ∨ (128 ≤ o.val ∧ o.val < 256) ∨ (256 ≤ o.val ∧ o.val < 384) ∨ 384 ≤ o.val := by omega
    unfold storesO
    rcases hq with h | h | h | h
    · refine ⟨_, List.mem_cons_of_mem _ (List.mem_cons_of_mem _ (List.mem_cons_of_mem _ List.mem_cons_self)), ?_⟩
      exact out_mem 0 inb_S16x512_S16x128_0_0 m o (by omega) (by omega)
    · refine ⟨_, List.mem_cons_of_mem _ (List.mem_cons_of_mem _ List.mem_cons_self), ?_⟩
      exact out_mem 128 inb_S16x512_S16x128_0_128 m o (by omega) (by omega)
    · refine ⟨_, List.mem_cons_of_mem _ List.mem_cons_self, ?_⟩
      exact out_mem 256 inb_S16x512_S16x128_0_256 m o (by omega) (by omega)
    · refine ⟨_, List.mem_cons_self, ?_⟩
      exact out_mem 384 inb_S16x512_S16x128_0_384 m o (by omega) (by omega)

/-- The activation scratch after the first point's stores. -/
theorem storesS_canon (arg5 : Memref sig .tc .vmem S16x6528 .bf16) (harg5 : arg5.IsWhole) (arg6 : Memref sig .tc .vmem S6528x16 .bf16) (harg6 : arg6.IsWhole) (x4 : Vec Ideal S16x6528 .bf16) (x5 : Vec Ideal S6528x16 .bf16) (c m j : ℕ) (hc : c < 26) (hm : m < 16) (hj : j < 256) :
    gS (View.canon (storesS arg5 harg5 arg6 harg6 x4 x5)) c m j = xsv x4 x5 c m j := by
  have e5 : View.readAt (Elt Ideal) arg5.view (Rect.unit (s := S16x6528) ![0, 0] S16x6528.size inb_S16x6528_S16x6528_0_0).toLoadRect (harg5.unread x4) = x4 := by
    funext z
    show arg5.view.read (Elt Ideal) (harg5.unread x4) _ = _
    rw [harg5.read_unread]
    congr 1
    funext q
    match q with
    | ⟨0, _⟩ => exact Fin.ext (show 0 + 1 * (z 0).val = (z 0).val by omega)
    | ⟨1, _⟩ => exact Fin.ext (show 0 + 1 * (z 1).val = (z 1).val by omega)
  have e6 : View.readAt (Elt Ideal) arg6.view (Rect.unit (s := S6528x16) ![0, 0] S6528x16.size inb_S6528x16_S6528x16_0_0).toLoadRect (harg6.unread x5) = x5 := by
    funext z
    show arg6.view.read (Elt Ideal) (harg6.unread x5) _ = _
    rw [harg6.read_unread]
    congr 1
    funext q
    match q with
    | ⟨0, _⟩ => exact Fin.ext (show 0 + 1 * (z 0).val = (z 0).val by omega)
    | ⟨1, _⟩ => exact Fin.ext (show 0 + 1 * (z 1).val = (z 1).val by omega)
  unfold storesS
  rw [e5, e6]
  exact storesX_canon x4 x5 arg5 _ (harg5.read_unread x4) c m j hc hm hj

theorem gS_at (S : Vec Ideal S26x16x256 .bf16) (c m j : ℕ) (hc : c < 26) (hm : m < 16) (hj : j < 256) : gS S c m j = S (ix3 ⟨c, hc⟩ ⟨m, hm⟩ ⟨j, hj⟩) := by
  unfold gS
  have e0 : Fin.ofNat 26 c = ⟨c, hc⟩ := Fin.ext (Nat.mod_eq_of_lt hc)
  have e1 : Fin.ofNat 16 m = ⟨m, hm⟩ := Fin.ext (Nat.mod_eq_of_lt hm)
  have e2 : Fin.ofNat 256 j = ⟨j, hj⟩ := Fin.ext (Nat.mod_eq_of_lt hj)
  rw [e0, e1, e2]

theorem last_idx (m : Fin 16) (j : Fin 256) :
    (Rect.unit (s := S26x16x256) ![25, 0, 0] S1x16x256.size inb_S26x16x256_S1x16x256_25_0_0).toLoadRect.idx (ix3 (0 : Fin 1) m j)
      = ix3 (⟨25, by decide⟩ : Fin 26) m j := by
  funext q
  match q with
  | ⟨0, _⟩ => rfl
  | ⟨1, _⟩ => exact Fin.ext (show 0 + 1 * m.val = m.val by omega)
  | ⟨2, _⟩ => exact Fin.ext (show 0 + 1 * j.val = j.val by omega)

theorem readS_A (arg5 : Memref sig .tc .vmem S16x6528 .bf16) (harg5 : arg5.IsWhole) (arg6 : Memref sig .tc .vmem S6528x16 .bf16) (harg6 : arg6.IsWhole) (arg11 : Memref sig .tc .vmem S26x16x256 .bf16) (x4 : Vec Ideal S16x6528 .bf16) (x5 : Vec Ideal S6528x16 .bf16) (m : Fin 16) (j : Fin 256) :
    arg11.view.readCov (storesS arg5 harg5 arg6 harg6 x4 x5) (Rect.unit (s := S26x16x256) ![25, 0, 0] S1x16x256.size inb_S26x16x256_S1x16x256_25_0_0).toLoadRect (ix3 0 m j)
      = xsv x4 x5 25 m.val j.val := by
  rw [View.readCov_eq_canon']
  refine (congrArg (View.canon (storesS arg5 harg5 arg6 harg6 x4 x5)) (last_idx m j)).trans ?_
  rw [← storesS_canon arg5 harg5 arg6 harg6 x4 x5 25 m.val j.val (by decide) m.isLt j.isLt, gS_at _ _ _ _ (by decide) m.isLt j.isLt]

theorem readS_B (arg11 : Memref sig .tc .vmem S26x16x256 .bf16) (harg11 : arg11.IsWhole) (xs0 : Vec Ideal S26x16x256 .bf16) (x4 : Vec Ideal S16x6528 .bf16) (x5 : Vec Ideal S6528x16 .bf16)
    (hxs : ∀ c m j, c < 26 → m < 16 → j < 256 → gS xs0 c m j = xsv x4 x5 c m j) (m : Fin 16) (j : Fin 256) :
    View.readAt (Elt Ideal) arg11.view (Rect.unit (s := S26x16x256) ![25, 0, 0] S1x16x256.size inb_S26x16x256_S1x16x256_25_0_0).toLoadRect (harg11.unread xs0) (ix3 0 m j)
      = xsv x4 x5 25 m.val j.val := by
  show arg11.view.read (Elt Ideal) (harg11.unread xs0) _ = _
  rw [harg11.read_unread]
  refine (congrArg xs0 (last_idx m j)).trans ?_
  rw [← hxs 25 m.val j.val (by decide) m.isLt j.isLt, gS_at _ _ _ _ (by decide) m.isLt j.isLt]

/-- A stored value from the two accumulators' values. -/
theorem pick_kval {x0 : Vec Ideal S512x3264 .i8} {am : ℕ → ℕ → ℕ → EReal} {xsf : ℕ → ℕ → ℕ → EReal} {x6 : Vec Ideal S16x512 .bf16}
    (a0 a1 : FVec Ideal S16x256 .f32) (m : Fin 16) (o : Fin 512)
    (h0 : a0 (ix2 m ⟨o.val % 256 / 2, by omega⟩) = kval x0 am xsf x6 0 0 m.val (o.val % 256 / 2)
      ∧ a0 (ix2 m ⟨128 + o.val % 256 / 2, by omega⟩) = kval x0 am xsf x6 0 1 m.val (o.val % 256 / 2))
    (h1 : a1 (ix2 m ⟨o.val % 256 / 2, by omega⟩) = kval x0 am xsf x6 1 0 m.val (o.val % 256 / 2)
      ∧ a1 (ix2 m ⟨128 + o.val % 256 / 2, by omega⟩) = kval x0 am xsf x6 1 1 m.val (o.val % 256 / 2)) :
    (if o.val / 256 = 0 then a0 else a1) (ix2 m ⟨128 * (o.val % 2) + o.val % 256 / 2, by omega⟩)
      = kval x0 am xsf x6 (o.val / 256) (o.val % 2) m.val (o.val % 256 / 2) := by
  have c0 : o.val % 2 = 0 ∨ o.val % 2 = 1 := by omega
  have d0 : o.val / 256 = 0 ∨ o.val / 256 = 1 := by omega
  have i0 : o.val % 2 = 0 → (⟨128 * (o.val % 2) + o.val % 256 / 2, by omega⟩ : Fin 256) = ⟨o.val % 256 / 2, by omega⟩ :=
    fun h => Fin.ext (by dsimp only; omega)
  have i1 : o.val % 2 = 1 → (⟨128 * (o.val % 2) + o.val % 256 / 2, by omega⟩ : Fin 256) = ⟨128 + o.val % 256 / 2, by omega⟩ :=
    fun h => Fin.ext (by dsimp only; omega)
  rcases d0 with d | d <;> rcases c0 with c | c
  · rw [if_pos d, i0 c, d, c]; exact h0.1
  · rw [if_pos d, i1 c, d, c]; exact h0.2
  · rw [if_neg (by omega), i0 c, d, c]; exact h1.1
  · rw [if_neg (by omega), i1 c, d, c]; exact h1.2

theorem acc0_A_apply (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (x0 : Vec Ideal S512x3264 .i8) (x1 : Vec Ideal S512x102 .i8) (x2 : Vec Ideal S56x128 .f32) (x3 : Vec Ideal S1 .f32) (x4 : Vec Ideal S16x6528 .bf16) (x5 : Vec Ideal S6528x16 .bf16) (x6 : Vec Ideal S16x512 .bf16) (x7 : Vec Ideal S32x128 .i8) (x8 : Vec Ideal S32x128 .i8)
    (hT : TableBytes x7 x8) (m : Fin 16) (l : Fin 128) :
    acc0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 m ⟨l.val, by omega⟩) = kval x0 (amAt i x1 x2 x3) (xsv x4 x5) x6 0 0 m.val l.val
      ∧ acc0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 m ⟨128 + l.val, by omega⟩) = kval x0 (amAt i x1 x2 x3) (xsv x4 x5) x6 0 1 m.val l.val := by
  have T := tables_of harg8 harg9 hT
  unfold acc0_A
  refine acc_kval (S := View.canon (storesS arg5 harg5 arg6 harg6 x4 x5)) T 0 (harg1.read_unread x0) (harg7.read_unread x6) (fun e p b l' he hp hb hl => half_canon i arg2 harg2 arg3 harg3 arg4 harg4 x1 x2 x3 e p b l' he hp hb hl)
    (fun c' m' j' h1 h2 h3 => storesS_canon arg5 harg5 arg6 harg6 x4 x5 c' m' j' h1 h2 h3)
    (fun m' j' => readS_A arg5 harg5 arg6 harg6 arg11 x4 x5 m' j') (fun m' l' => ?_) m l
  have h := t1_loop T ev_apply c i arg1 harg1 arg2 harg2 arg3 harg3 arg4 harg4 arg5 harg5 arg6 harg6 arg7 harg7 arg8 harg8 arg9 harg9 arg10 harg10 arg11 harg11 arg12 harg12 (kernelRun0_A.sl.r_44 c i arg2 harg2 arg3 harg3 arg4 harg4 x1 x2 x3) (kernelRun0_A.sl.r_45 c i arg2 harg2 arg3 harg3 arg4 harg4 x1 x2 x3) (harg1.unread x0) (arg11.view.writes (Elt Ideal) arg11.view.junk (storesS arg5 harg5 arg6 harg6 x4 x5)) (arg12.view.writes (Elt Ideal) arg12.view.junk (strip0 i arg2 harg2 arg3 harg3 arg4 harg4 x1 x2 x3 ++ [fill])) 25 (Nat.le_refl 25) m' l'
  rw [View.read_writes_junk_eq_canon arg12.view, View.read_writes_junk_eq_canon arg11.view, harg1.read_unread x0] at h
  exact h

theorem acc1_A_apply (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (x0 : Vec Ideal S512x3264 .i8) (x1 : Vec Ideal S512x102 .i8) (x2 : Vec Ideal S56x128 .f32) (x3 : Vec Ideal S1 .f32) (x4 : Vec Ideal S16x6528 .bf16) (x5 : Vec Ideal S6528x16 .bf16) (x6 : Vec Ideal S16x512 .bf16) (x7 : Vec Ideal S32x128 .i8) (x8 : Vec Ideal S32x128 .i8)
    (hT : TableBytes x7 x8) (m : Fin 16) (l : Fin 128) :
    acc1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 m ⟨l.val, by omega⟩) = kval x0 (amAt i x1 x2 x3) (xsv x4 x5) x6 1 0 m.val l.val
      ∧ acc1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 m ⟨128 + l.val, by omega⟩) = kval x0 (amAt i x1 x2 x3) (xsv x4 x5) x6 1 1 m.val l.val := by
  have T := tables_of harg8 harg9 hT
  unfold acc1_A
  refine acc_kval (S := View.canon (storesS arg5 harg5 arg6 harg6 x4 x5)) T 1 (harg1.read_unread x0) (harg7.read_unread x6) (fun e p b l' he hp hb hl => whole_canon i arg2 harg2 arg3 harg3 arg4 harg4 x1 x2 x3 e p b l' he hp hb hl)
    (fun c' m' j' h1 h2 h3 => storesS_canon arg5 harg5 arg6 harg6 x4 x5 c' m' j' h1 h2 h3)
    (fun m' j' => readS_A arg5 harg5 arg6 harg6 arg11 x4 x5 m' j') (fun m' l' => ?_) m l
  have h := t2_loop T ev_apply c i arg1 harg1 arg2 harg2 arg3 harg3 arg4 harg4 arg5 harg5 arg6 harg6 arg7 harg7 arg8 harg8 arg9 harg9 arg10 harg10 arg11 harg11 arg12 harg12 (kernelRun0_A.sl.r_111 c i arg3 harg3 x2) (kernelRun0_A.sl.r_112 c i arg3 harg3 x2) (kernelRun0_A.sl.r_124 c arg2 harg2 x1) (k0_pay634 kernelRun0_A.sl.v20) (k0_pay635 (k0_pay608 kernelRun0_A.sl.v19)) (harg1.unread x0) (arg11.view.writes (Elt Ideal) arg11.view.junk (storesS arg5 harg5 arg6 harg6 x4 x5)) (arg12.view.writes (Elt Ideal) arg12.view.junk (storesA i arg2 harg2 arg3 harg3 arg4 harg4 x1 x2 x3)) 25 (Nat.le_refl 25) m' l'
  rw [View.read_writes_junk_eq_canon arg12.view, View.read_writes_junk_eq_canon arg11.view, harg1.read_unread x0] at h
  exact h

/-- The first grid point's block. -/
theorem block_A (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (hc0 : cond0_0 i) (x0 : Vec Ideal S512x3264 .i8) (x1 : Vec Ideal S512x102 .i8) (x2 : Vec Ideal S56x128 .f32) (x3 : Vec Ideal S1 .f32) (x4 : Vec Ideal S16x6528 .bf16) (x5 : Vec Ideal S6528x16 .bf16) (x6 : Vec Ideal S16x512 .bf16) (x7 : Vec Ideal S32x128 .i8) (x8 : Vec Ideal S32x128 .i8)
    (hT : TableBytes x7 x8) (m : Fin 16) (o : Fin 512) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 (ix2 m o)
      = kval x0 (amAt i x1 x2 x3) (xsv x4 x5) x6 (o.val / 256) (o.val % 2) m.val (o.val % 256 / 2) := by
  unfold out0_A_9
  rw [View.read_writes_junk_eq_canon, out_A]
  refine (storesO_canon _ _ m o).trans ?_
  have a0 := acc0_A_apply c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hT m ⟨o.val % 256 / 2, by omega⟩
  have a1 := acc1_A_apply c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hT m ⟨o.val % 256 / 2, by omega⟩
  exact pick_kval _ _ m o a0 a1

theorem acc0_B_apply (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (x0 : Vec Ideal S512x3264 .i8) (x1 : Vec Ideal S512x102 .i8) (x2 : Vec Ideal S56x128 .f32) (x3 : Vec Ideal S1 .f32) (x4 : Vec Ideal S16x6528 .bf16) (x5 : Vec Ideal S6528x16 .bf16) (x6 : Vec Ideal S16x512 .bf16) (x7 : Vec Ideal S32x128 .i8) (x8 : Vec Ideal S32x128 .i8) (xs0 : Vec Ideal S26x16x256 .bf16)
    (hT : TableBytes x7 x8)
    (hxs : ∀ c m j, c < 26 → m < 16 → j < 256 → gS xs0 c m j = xsv x4 x5 c m j) (m : Fin 16) (l : Fin 128) :
    acc0_B c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0 (ix2 m ⟨l.val, by omega⟩) = kval x0 (amAt i x1 x2 x3) (xsv x4 x5) x6 0 0 m.val l.val
      ∧ acc0_B c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0 (ix2 m ⟨128 + l.val, by omega⟩) = kval x0 (amAt i x1 x2 x3) (xsv x4 x5) x6 0 1 m.val l.val := by
  have T := tables_of harg8 harg9 hT
  unfold acc0_B
  refine acc_kval (S := xs0) T 0 (harg1.read_unread x0) (harg7.read_unread x6) (fun e p b l' he hp hb hl => half_canon i arg2 harg2 arg3 harg3 arg4 harg4 x1 x2 x3 e p b l' he hp hb hl)
    hxs
    (fun m' j' => readS_B arg11 harg11 xs0 x4 x5 hxs m' j') (fun m' l' => ?_) m l
  have h := t1_loop T ev_apply c i arg1 harg1 arg2 harg2 arg3 harg3 arg4 harg4 arg5 harg5 arg6 harg6 arg7 harg7 arg8 harg8 arg9 harg9 arg10 harg10 arg11 harg11 arg12 harg12 (kernelRun0_B.sl.r_44 c i arg2 harg2 arg3 harg3 arg4 harg4 x1 x2 x3) (kernelRun0_B.sl.r_45 c i arg2 harg2 arg3 harg3 arg4 harg4 x1 x2 x3) (harg1.unread x0) (harg11.unread xs0) (arg12.view.writes (Elt Ideal) arg12.view.junk (strip0 i arg2 harg2 arg3 harg3 arg4 harg4 x1 x2 x3 ++ [fill])) 25 (Nat.le_refl 25) m' l'
  rw [View.read_writes_junk_eq_canon arg12.view, harg11.read_unread, harg1.read_unread x0] at h
  exact h

theorem acc1_B_apply (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (x0 : Vec Ideal S512x3264 .i8) (x1 : Vec Ideal S512x102 .i8) (x2 : Vec Ideal S56x128 .f32) (x3 : Vec Ideal S1 .f32) (x4 : Vec Ideal S16x6528 .bf16) (x5 : Vec Ideal S6528x16 .bf16) (x6 : Vec Ideal S16x512 .bf16) (x7 : Vec Ideal S32x128 .i8) (x8 : Vec Ideal S32x128 .i8) (xs0 : Vec Ideal S26x16x256 .bf16)
    (hT : TableBytes x7 x8)
    (hxs : ∀ c m j, c < 26 → m < 16 → j < 256 → gS xs0 c m j = xsv x4 x5 c m j) (m : Fin 16) (l : Fin 128) :
    acc1_B c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0 (ix2 m ⟨l.val, by omega⟩) = kval x0 (amAt i x1 x2 x3) (xsv x4 x5) x6 1 0 m.val l.val
      ∧ acc1_B c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0 (ix2 m ⟨128 + l.val, by omega⟩) = kval x0 (amAt i x1 x2 x3) (xsv x4 x5) x6 1 1 m.val l.val := by
  have T := tables_of harg8 harg9 hT
  unfold acc1_B
  refine acc_kval (S := xs0) T 1 (harg1.read_unread x0) (harg7.read_unread x6) (fun e p b l' he hp hb hl => whole_canon i arg2 harg2 arg3 harg3 arg4 harg4 x1 x2 x3 e p b l' he hp hb hl)
    hxs
    (fun m' j' => readS_B arg11 harg11 xs0 x4 x5 hxs m' j') (fun m' l' => ?_) m l
  have h := t2_loop T ev_apply c i arg1 harg1 arg2 harg2 arg3 harg3 arg4 harg4 arg5 harg5 arg6 harg6 arg7 harg7 arg8 harg8 arg9 harg9 arg10 harg10 arg11 harg11 arg12 harg12 (kernelRun0_B.sl.r_111 c i arg3 harg3 x2) (kernelRun0_B.sl.r_112 c i arg3 harg3 x2) (kernelRun0_B.sl.r_124 c arg2 harg2 x1) (k0_pay634 kernelRun0_B.sl.v20) (k0_pay635 (k0_pay608 kernelRun0_B.sl.v19)) (harg1.unread x0) (harg11.unread xs0) (arg12.view.writes (Elt Ideal) arg12.view.junk (storesA i arg2 harg2 arg3 harg3 arg4 harg4 x1 x2 x3)) 25 (Nat.le_refl 25) m' l'
  rw [View.read_writes_junk_eq_canon arg12.view, harg11.read_unread, harg1.read_unread x0] at h
  exact h

/-- A later grid point's block, when the activation scratch is as the first point left it. -/
theorem block_B (c : Dev nD) (i : grid0.Coords) (arg1 : Memref sig .tc .vmem S512x3264 .i8) (harg1 : arg1.IsWhole) (arg2 : Memref sig .tc .vmem S512x102 .i8) (harg2 : arg2.IsWhole) (arg3 : Memref sig .tc .vmem S56x128 .f32) (harg3 : arg3.IsWhole) (arg4 : Memref sig .tc .smem S1 .f32) (harg4 : arg4.IsWhole) (arg5 : Memref sig .tc .vmem S16x6528 .bf16) (harg5 : arg5.IsWhole) (arg6 : Memref sig .tc .vmem S6528x16 .bf16) (harg6 : arg6.IsWhole) (arg7 : Memref sig .tc .vmem S16x512 .bf16) (harg7 : arg7.IsWhole) (arg8 : Memref sig .tc .vmem S32x128 .i8) (harg8 : arg8.IsWhole) (arg9 : Memref sig .tc .vmem S32x128 .i8) (harg9 : arg9.IsWhole) (arg10 : Memref sig .tc .vmem S16x512 .bf16) (harg10 : arg10.IsWhole) (arg11 : Memref sig .tc .vmem S26x16x256 .bf16) (harg11 : arg11.IsWhole) (arg12 : Memref sig .tc .vmem S2x2x2x56x2x128 .bf16) (harg12 : arg12.IsWhole) (hc0 : ¬cond0_0 i) (x0 : Vec Ideal S512x3264 .i8) (x1 : Vec Ideal S512x102 .i8) (x2 : Vec Ideal S56x128 .f32) (x3 : Vec Ideal S1 .f32) (x4 : Vec Ideal S16x6528 .bf16) (x5 : Vec Ideal S6528x16 .bf16) (x6 : Vec Ideal S16x512 .bf16) (x7 : Vec Ideal S32x128 .i8) (x8 : Vec Ideal S32x128 .i8) (xs0 : Vec Ideal S26x16x256 .bf16)
    (hT : TableBytes x7 x8)
    (hxs : ∀ c m j, c < 26 → m < 16 → j < 256 → gS xs0 c m j = xsv x4 x5 c m j) (m : Fin 16) (o : Fin 512) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 (ix2 m o)
      = kval x0 (amAt i x1 x2 x3) (xsv x4 x5) x6 (o.val / 256) (o.val % 2) m.val (o.val % 256 / 2) := by
  unfold out0_B_9
  rw [View.read_writes_junk_eq_canon, out_B]
  refine (storesO_canon _ _ m o).trans ?_
  have a0 := acc0_B_apply c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0 hT hxs m ⟨o.val % 256 / 2, by omega⟩
  have a1 := acc1_B_apply c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0 hT hxs m ⟨o.val % 256 / 2, by omega⟩
  exact pick_kval _ _ m o a0 a1

end Cert.KernelIdeal.Absmax
-- ==== Proof.Reads.lean ====
/- WHAT THE BODY'S OPERANDS HOLD at a grid point, in the arguments: a window's block at an index, and the arrays the host
   computes before the kernel (the scales laid out on 56 rows of 128, the two byte tables). -/
module

public import proofs.«01_k».proof.Proof.Gen.KernelIdeal.Value
public import Idealize.ShloMosaic.Lib.Pipeline.ValueKit
public import Idealize.ShloMosaic.Lib.Claim
public import proofs.«01_k».proof.Proof.Tile

@[expose] public section

set_option maxRecDepth 16384

noncomputable section

namespace Cert.KernelIdeal.Reads

open Idealize.ShloMosaic Idealize.ShloMosaic.TcCoe Idealize.SL.Sem
open Cert.KernelIdeal Cert.KernelIdeal.Gen Cert.KernelIdeal.Tile

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0] ∧ win0_4.index t = ![0, 0] ∧ win0_5.index t = ![0, 0] ∧ win0_6.index t = ![0, t.val]
    ∧ win0_7.index t = ![0, 0] ∧ win0_8.index t = ![0, 0] ∧ win0_9.index t = ![0, t.val] ∧ ((grid0.coords t) 0).val = t.val :=
  (by decide +kernel : ∀ t : Fin grid0.N, _)

theorem read0 (c : Dev nD) (t : Fin cfg0.N) (a : Fin 512) (b : Fin 3264) (h : 512 * t.val + a.val < 13824) :
    (iblk m c 0 t : Vec Ideal S512x3264 .i8) (ix2 a b) = (m ((c : Thread nD τ).loc main_arg1) : Vec Ideal S13824x3264 .i8) (ix2 ⟨512 * t.val + a.val, h⟩ b) := by
  blk_ext [iblk, V_main_arg1, idx t]

theorem read1 (c : Dev nD) (t : Fin cfg0.N) (a : Fin 512) (b : Fin 102) (h : 512 * t.val + a.val < 13824) :
    (iblk m c 1 t : Vec Ideal S512x102 .i8) (ix2 a b) = (m ((c : Thread nD τ).loc main_arg2) : Vec Ideal S13824x102 .i8) (ix2 ⟨512 * t.val + a.val, h⟩ b) := by
  blk_ext [iblk, V_main_arg2, idx t]

theorem read5 (c : Dev nD) (t : Fin cfg0.N) (a : Fin 6528) (b : Fin 16) :
    (iblk m c 5 t : Vec Ideal S6528x16 .bf16) (ix2 a b) = (m ((c : Thread nD τ).loc main_arg5) : Vec Ideal S6528x16 .bf16) (ix2 a b) := by
  blk_ext [iblk, V_main_arg5, idx t]

theorem read6 (c : Dev nD) (t : Fin cfg0.N) (a : Fin 16) (b : Fin 512) (h : 512 * t.val + b.val < 13824) :
    (iblk m c 6 t : Vec Ideal S16x512 .bf16) (ix2 a b) = (m ((c : Thread nD τ).loc main_arg6) : Vec Ideal S16x13824 .bf16) (ix2 a ⟨512 * t.val + b.val, h⟩) := by
  blk_ext [iblk, V_main_arg6, idx t]

theorem V_v6 (c : Dev nD) : V m c main_v6 = (shapeCast S16x6528 (m ((c : Thread nD τ).loc main_arg0) : Vec Ideal S16x1x6528 .bf16) shapeCasts_S16x1x6528_S16x6528 : Vec Ideal S16x6528 .bf16) := by
  unfold V
  simp only [hostOps0, hostOps0_1, hostOps0_2, List.flatten_cons, List.flatten_nil, List.append_nil, List.cons_append, List.nil_append]
  entry_read
  rfl

theorem V_v7 (c : Dev nD) : V m c main_v7 = (shapeCast S1 (m ((c : Thread nD τ).loc main_arg4) : Vec Ideal S_ .f32) shapeCasts_S_S1 : Vec Ideal S1 .f32) := by
  unfold V
  simp only [hostOps0, hostOps0_1, hostOps0_2, List.flatten_cons, List.flatten_nil, List.append_nil, List.cons_append, List.nil_append]
  entry_read
  rfl

theorem V_v5 (c : Dev nD) : V m c main_v5 = (pad S56x128 ![0, 0] ![2, 26] ![0, 0]
    (shapeCast S54x102 (m ((c : Thread nD τ).loc main_arg3) : Vec Ideal S5508 .f32) shapeCasts_S5508_S54x102 : Vec Ideal S54x102 .f32)
    (sitofp (F := Ideal) .f32 (constantI S_ 32 0#32)) pads_S54x102_S56x128_020_0260 h_S_ : Vec Ideal S56x128 .f32) := by
  unfold V
  simp only [hostOps0, hostOps0_1, hostOps0_2, List.flatten_cons, List.flatten_nil, List.append_nil, List.cons_append, List.nil_append]
  entry_read
  rfl

theorem V_v1 (c : Dev nD) : V m c main_v1 = (shapeCast S32x128 (broadcastInDim S32x8x16 ![2] bcast_S16_S32x8x16_2 fun i => lit0 (S16.rowMajor i) : Vec Ideal S32x8x16 .i8)
    shapeCasts_S32x8x16_S32x128 : Vec Ideal S32x128 .i8) := by
  unfold V
  simp only [hostOps0, hostOps0_1, hostOps0_2, List.flatten_cons, List.flatten_nil, List.append_nil, List.cons_append, List.nil_append]
  entry_read
  rfl

theorem V_v3 (c : Dev nD) : V m c main_v3 = (shapeCast S32x128 (broadcastInDim S32x8x16 ![2] bcast_S16_S32x8x16_2 fun i => lit1 (S16.rowMajor i) : Vec Ideal S32x8x16 .i8)
    shapeCasts_S32x8x16_S32x128 : Vec Ideal S32x128 .i8) := by
  unfold V
  simp only [hostOps0, hostOps0_1, hostOps0_2, List.flatten_cons, List.flatten_nil, List.append_nil, List.cons_append, List.nil_append]
  entry_read
  rfl

theorem drop_apply (X : Vec Ideal S16x1x6528 .bf16) (a : Fin 16) (b : Fin 6528) :
    shapeCast S16x6528 X shapeCasts_S16x1x6528_S16x6528 (ix2 a b) = X (ix3 a 0 b) := by
  pointwise

theorem scalar_apply (X : Vec Ideal S_ .f32) : shapeCast S1 X shapeCasts_S_S1 (ix1 0) = X ix0 := by
  unfold shapeCast
  exact congrArg X (funext fun a => (show Fin 0 from a).elim0)

theorem read4 (c : Dev nD) (t : Fin cfg0.N) (a : Fin 16) (b : Fin 6528) :
    (iblk m c 4 t : Vec Ideal S16x6528 .bf16) (ix2 a b) = (m ((c : Thread nD τ).loc main_arg0) : Vec Ideal S16x1x6528 .bf16) (ix3 a 0 b) := by
  have e : ((cfg0.win 4).blk t).view.emb (ix2 a b) = (ix2 a b : S16x6528.Idx) := by blk_ext [idx t]
  show V m c main_v6 (((cfg0.win 4).blk t).view.emb (ix2 a b)) = _
  rw [V_v6, e]
  exact drop_apply _ a b

theorem read3 (c : Dev nD) (t : Fin cfg0.N) :
    (iblk m c 3 t : Vec Ideal S1 .f32) (ix1 0) = (m ((c : Thread nD τ).loc main_arg4) : Vec Ideal S_ .f32) ix0 := by
  have e : ((cfg0.win 3).blk t).view.emb (ix1 0) = (ix1 0 : S1.Idx) := by blk_ext [idx t]
  show V m c main_v7 (((cfg0.win 3).blk t).view.emb (ix1 0)) = _
  rw [V_v7, e]
  exact scalar_apply _

theorem read2 (c : Dev nD) (t : Fin cfg0.N) (a : Fin 54) (b : Fin 102) :
    (iblk m c 2 t : Vec Ideal S56x128 .f32) (ix2 ⟨a.val, by omega⟩ ⟨b.val, by omega⟩) = (m ((c : Thread nD τ).loc main_arg3) : Vec Ideal S5508 .f32) (ix1 ⟨102 * a.val + b.val, by omega⟩) := by
  have e : ((cfg0.win 2).blk t).view.emb (ix2 ⟨a.val, by omega⟩ ⟨b.val, by omega⟩) = (ix2 ⟨a.val, by omega⟩ ⟨b.val, by omega⟩ : S56x128.Idx) := by blk_ext [idx t]
  show V m c main_v5 (((cfg0.win 2).blk t).view.emb (ix2 ⟨a.val, by omega⟩ ⟨b.val, by omega⟩)) = _
  rw [V_v5, e]
  pointwise
  exact congrArg _ (congrArg ix1 (Fin.ext (by show a.val * 102 + b.val = 102 * a.val + b.val; omega)))

theorem rowMajor_S16 : ∀ a : Fin 16, (S16.rowMajor (ix1 a)).val = a.val := by decide +kernel

theorem read7 (c : Dev nD) (t : Fin cfg0.N) (ρ : Fin 32) (j : Fin 128) :
    (iblk m c 7 t : Vec Ideal S32x128 .i8) (ix2 ρ j) = lit0 ⟨j.val % 16, Nat.mod_lt _ (by decide)⟩ := by
  have e : ((cfg0.win 7).blk t).view.emb (ix2 ρ j) = (ix2 ρ j : S32x128.Idx) := by blk_ext [idx t]
  show V m c main_v1 (((cfg0.win 7).blk t).view.emb (ix2 ρ j)) = _
  rw [V_v1, e]
  pointwise
  exact congrArg lit0 (Fin.ext (rowMajor_S16 _))

theorem read8 (c : Dev nD) (t : Fin cfg0.N) (ρ : Fin 32) (j : Fin 128) :
    (iblk m c 8 t : Vec Ideal S32x128 .i8) (ix2 ρ j) = lit1 ⟨j.val % 16, Nat.mod_lt _ (by decide)⟩ := by
  have e : ((cfg0.win 8).blk t).view.emb (ix2 ρ j) = (ix2 ρ j : S32x128.Idx) := by blk_ext [idx t]
  show V m c main_v3 (((cfg0.win 8).blk t).view.emb (ix2 ρ j)) = _
  rw [V_v3, e]
  pointwise
  exact congrArg lit1 (Fin.ext (rowMajor_S16 _))

theorem lit0_lv : ∀ j : Fin 128, lit0 ⟨j.val % 16, Nat.mod_lt _ (by decide)⟩ = (lv (BitVec.ofNat 8 j.val)).setWidth 8 := by
  decide +kernel

theorem lit1_lv : ∀ j : Fin 128, lit1 ⟨j.val % 16, Nat.mod_lt _ (by decide)⟩ = (lv (BitVec.ofNat 8 j.val) >>> 8).setWidth 8 := by
  decide +kernel

end Cert.KernelIdeal.Reads
-- ==== Proof.Grid.lean ====
/- EVERY GRID POINT'S BLOCK: the activation scratch the first point fills holds the same at every later one, so each point
   stores the block's value over the arguments. -/
module

public import proofs.«01_k».proof.Proof.Block
public import proofs.«01_k».proof.Proof.Reads

@[expose] public section

set_option maxRecDepth 16384

noncomputable section

namespace Cert.KernelIdeal.Grid

open Idealize.ShloMosaic Idealize.ShloMosaic.TcCoe Idealize.SL.Sem
open Cert.KernelIdeal Cert.KernelIdeal.Gen Cert.KernelIdeal.Tile Cert.KernelIdeal.Absmax Cert.KernelIdeal.Reads

variable (m : (ℓ : Loc nD τ sig) → Buf (Elt Ideal) ℓ)

/-- The activations as the kernel reads them: two-dimensional. -/
def actOf (c : Dev nD) : Vec Ideal S16x6528 .bf16 :=
  shapeCast S16x6528 (m ((c : Thread nD τ).loc main_arg0) : Vec Ideal S16x1x6528 .bf16) shapeCasts_S16x1x6528_S16x6528

theorem iblk4 (c : Dev nD) (t : Fin cfg0.N) : (iblk m c 4 t : Vec Ideal S16x6528 .bf16) = actOf m c := by
  funext y
  have e : ((cfg0.win 4).blk t).view.emb y = (y : S16x6528.Idx) := by blk_ext [idx t]
  show V m c main_v6 (((cfg0.win 4).blk t).view.emb y) = _
  rw [V_v6, e]
  rfl

theorem iblk5 (c : Dev nD) (t : Fin cfg0.N) : (iblk m c 5 t : Vec Ideal S6528x16 .bf16) = m ((c : Thread nD τ).loc main_arg5) := by
  blk_ext! [iblk, V_main_arg5, idx t]

theorem tableBytes (c : Dev nD) (t : Fin cfg0.N) : TableBytes (iblk m c 7 t) (iblk m c 8 t) :=
  fun ρ j => ⟨(read7 m c t ρ j).trans (lit0_lv j), (read8 m c t ρ j).trans (lit1_lv j)⟩

/-- What the first point leaves in the activation scratch. -/
theorem scratch_A (c : Dev nD) (t : Fin cfg0.N) (h0 : t.val % 27 = 0) (c' m' j' : ℕ) (hc : c' < 26) (hm : m' < 16) (hj : j' < 256) :
    gS (outsAt0 m c t.val t.isLt).2 c' m' j' = xsv (iblk m c 4 t) (iblk m c 5 t) c' m' j' := by
  rw [outsAt0_A m c t h0]
  refine Eq.trans (b := gS (View.canon (Val := Elt Ideal) (storesS (ms0_4 t) (hs0_4 t) (ms0_5 t) (hs0_5 t) (iblk m c 4 t) (iblk m c 5 t))) c' m' j') ?_
    (storesS_canon (ms0_4 t) (hs0_4 t) (ms0_5 t) (hs0_5 t) (iblk m c 4 t) (iblk m c 5 t) c' m' j' hc hm hj)
  refine congrArg (fun S => gS S c' m' j') ?_
  dsimp only
  unfold sout0_A_0
  refine (View.read_writes_junk_eq_canon VS0_0 _).trans ?_
  rfl

/-- The scratch holds the activations at every point. -/
theorem scratch (c : Dev nD) : ∀ (n : ℕ) (hn : n < cfg0.N) (c' m' j' : ℕ), c' < 26 → m' < 16 → j' < 256 →
    gS (outsAt0 m c n hn).2 c' m' j' = xsv (actOf m c) (m ((c : Thread nD τ).loc main_arg5)) c' m' j' := by
  intro n
  induction n with
  | zero =>
    intro hn c' m' j' hc hm hj
    have h := scratch_A m c ⟨0, hn⟩ rfl c' m' j' hc hm hj
    rwa [iblk4, iblk5] at h
  | succ n ih =>
    intro hn c' m' j' hc hm hj
    have hN : cfg0.N = 27 := N_0
    have h0 : ¬ (⟨n + 1, hn⟩ : Fin cfg0.N).val % 27 = 0 := by
      show ¬ (n + 1) % 27 = 0
      omega
    have h := congrArg Prod.snd (outsAt0_B m c ⟨n + 1, hn⟩ h0)
    exact (congrFun (congrFun (congrFun (congrArg gS h) c') m') j').trans (ih (Nat.lt_of_succ_lt hn) c' m' j' hc hm hj)

/-- What a grid point stores. -/
theorem block (c : Dev nD) (t : Fin cfg0.N) (a : Fin 16) (o : Fin 512) :
    (outsAt0 m c t.val t.isLt).1 (ix2 a o)
      = kval (iblk m c 0 t) (amAt (grid0.coords t) (iblk m c 1 t) (iblk m c 2 t) (iblk m c 3 t))
          (xsv (actOf m c) (m ((c : Thread nD τ).loc main_arg5))) (iblk m c 6 t) (o.val / 256) (o.val % 2) a.val (o.val % 256 / 2) := by
  by_cases h0 : t.val % 27 = 0
  · refine (congrFun (congrArg Prod.fst (outsAt0_A m c t h0)) (ix2 a o)).trans ?_
    rw [← iblk4 m c t, ← iblk5 m c t]
    exact block_A _ _ _ _ _ _ _ _ _ _ _ _ _ _ _ _ _ _ _ _ _ _ _ _ _ _ ((hcond0_0 t).mpr h0) _ _ _ _ _ _ _ _ _ (tableBytes m c t) a o
  · refine (congrFun (congrArg Prod.fst (outsAt0_B m c t h0)) (ix2 a o)).trans ?_
    rw [← iblk4 m c t, ← iblk5 m c t]
    refine block_B _ _ _ _ _ _ _ _ _ _ _ _ _ _ _ _ _ _ _ _ _ _ _ _ _ _ (fun h => h0 ((hcond0_0 t).mp h)) _ _ _ _ _ _ _ _ _ _ (tableBytes m c t) (fun c' m' j' hc hm hj => ?_) a o
    rw [iblk4, iblk5]
    exact scratch m c (t.val - 1) _ c' m' j' hc hm hj

end Cert.KernelIdeal.Grid
-- ==== Proof.Sums.lean ====
/- THE SUM, RE-INDEXED: the twenty-six chunks of 256 columns are the even and the odd columns of the activations in order, then the
   low-rank columns; and doubling each low-rank coefficient is doubling their sum. -/
module

public import Idealize.ShloMosaic.Lib.IdealHost

@[expose] public section

noncomputable section

namespace Cert.Sums

open Idealize.ShloMosaic

/-- A sum over `C` tiles of `T` is a sum over their positions. -/
theorem tiles (T : ℕ) (g : ℕ → EReal) (C : ℕ) :
    ∑ c ∈ Finset.range C, ∑ p ∈ Finset.range T, g (T * c + p) = ∑ k ∈ Finset.range (T * C), g k := by
  induction C with
  | zero => simp
  | succ C ih => rw [Finset.sum_range_succ, ih, Nat.mul_succ, Finset.sum_range_add]

/-- A nonnegative finite factor moves into a sum. -/
theorem mul_sum (a : EReal) (h0 : 0 ≤ a) (h1 : a ≠ ⊤) (f : ℕ → EReal) (n : ℕ) :
    a * ∑ r ∈ Finset.range n, f r = ∑ r ∈ Finset.range n, a * f r := by
  induction n with
  | zero => simp
  | succ n ih => rw [Finset.sum_range_succ, Finset.sum_range_succ, EReal.left_distrib_of_nonneg_of_ne_top h0 h1, ih]

theorem two_bf16 : Ideal.ofBits .bf16 0x4000#16 = ((2 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

theorem two_nonneg : 0 ≤ Ideal.ofBits .bf16 0x4000#16 := by
  rw [two_bf16]
  exact EReal.coe_nonneg.mpr (by norm_num)

theorem two_ne_top : Ideal.ofBits .bf16 0x4000#16 ≠ ⊤ := by
  rw [two_bf16]
  exact EReal.coe_ne_top _

section
variable (x T b : ℕ → EReal) (w : ℕ → ℕ → EReal) (two : EReal)

/-- The columns of one chunk. -/
def col (c j : ℕ) : EReal :=
  if c < 25 then x (256 * c + 2 * (j % 128) + j / 128)
  else if j < 128 then x (6400 + 2 * (j % 64) + j / 64)
  else if j < 144 then T (j - 128) * two else 0

theorem chunk (c : ℕ) (hc : c < 25) :
    ∑ j ∈ Finset.range 256, col x T two c j * w (j / 128) (128 * c + j % 128)
      = ∑ p ∈ Finset.range 128, x (2 * (128 * c + p)) * w 0 (128 * c + p) + ∑ p ∈ Finset.range 128, x (2 * (128 * c + p) + 1) * w 1 (128 * c + p) := by
  rw [show 256 = 128 + 128 from rfl, Finset.sum_range_add]
  refine congrArg₂ (· + ·) (Finset.sum_congr rfl fun p hp => ?_) (Finset.sum_congr rfl fun p hp => ?_)
  · have hp := Finset.mem_range.mp hp
    unfold col
    rw [if_pos hc, Nat.mod_eq_of_lt hp, Nat.div_eq_of_lt hp, show 256 * c + 2 * p + 0 = 2 * (128 * c + p) by omega]
  · have hp := Finset.mem_range.mp hp
    unfold col
    rw [if_pos hc, show (128 + p) % 128 = p by omega, show (128 + p) / 128 = 1 by omega, show 256 * c + 2 * p + 1 = 2 * (128 * c + p) + 1 by omega]

theorem last :
    ∑ j ∈ Finset.range 256, col x T two 25 j * (if j < 128 then w (j / 64) (3200 + j % 64) else if j < 144 then b (j - 128) else 0)
      = (∑ p ∈ Finset.range 64, x (2 * (3200 + p)) * w 0 (3200 + p) + ∑ p ∈ Finset.range 64, x (2 * (3200 + p) + 1) * w 1 (3200 + p))
        + ∑ r ∈ Finset.range 16, T r * two * b r := by
  rw [show 256 = 64 + 64 + 16 + 112 from rfl, Finset.sum_range_add, Finset.sum_range_add, Finset.sum_range_add]
  have hz : ∑ p ∈ Finset.range 112, col x T two 25 (64 + 64 + 16 + p) * (if 64 + 64 + 16 + p < 128 then w ((64 + 64 + 16 + p) / 64) (3200 + (64 + 64 + 16 + p) % 64)
      else if 64 + 64 + 16 + p < 144 then b (64 + 64 + 16 + p - 128) else 0) = 0 := by
    refine Finset.sum_eq_zero fun p _ => ?_
    rw [if_neg (by omega), if_neg (by omega), mul_zero]
  rw [hz, add_zero]
  refine congrArg₂ (· + ·) (congrArg₂ (· + ·) (Finset.sum_congr rfl fun p hp => ?_) (Finset.sum_congr rfl fun p hp => ?_)) (Finset.sum_congr rfl fun p hp => ?_)
  · have hp := Finset.mem_range.mp hp
    unfold col
    rw [if_neg (by decide), if_pos (by omega), if_pos (by omega), Nat.mod_eq_of_lt hp, Nat.div_eq_of_lt hp, show 6400 + 2 * p + 0 = 2 * (3200 + p) by omega]
  · have hp := Finset.mem_range.mp hp
    unfold col
    rw [if_neg (by decide), if_pos (by omega), if_pos (by omega), show (64 + p) % 64 = p by omega, show (64 + p) / 64 = 1 by omega,
      show 6400 + 2 * p + 1 = 2 * (3200 + p) + 1 by omega]
  · have hp := Finset.mem_range.mp hp
    unfold col
    rw [if_neg (by decide), if_neg (by omega), if_pos (by omega), if_neg (by omega), if_pos (by omega), show 64 + 64 + p - 128 = p by omega]

/-- The chunks' sum is the two columns' sums and the low-rank sum. -/
theorem regroup (h0 : 0 ≤ two) (h1 : two ≠ ⊤) :
    (∑ c ∈ Finset.range 25, ∑ j ∈ Finset.range 256, col x T two c j * w (j / 128) (128 * c + j % 128))
      + ∑ j ∈ Finset.range 256, col x T two 25 j * (if j < 128 then w (j / 64) (3200 + j % 64) else if j < 144 then b (j - 128) else 0)
    = (∑ k ∈ Finset.range 3264, x (2 * k) * w 0 k + ∑ k ∈ Finset.range 3264, x (2 * k + 1) * w 1 k) + two * ∑ r ∈ Finset.range 16, T r * b r := by
  rw [last, Finset.sum_congr rfl fun c hc => chunk x T w two c (Finset.mem_range.mp hc), Finset.sum_add_distrib,
    tiles 128 (fun k => x (2 * k) * w 0 k) 25, tiles 128 (fun k => x (2 * k + 1) * w 1 k) 25, mul_sum two h0 h1,
    show 3264 = 128 * 25 + 64 from rfl, Finset.sum_range_add, Finset.sum_range_add, ← add_assoc, add_add_add_comm]
  refine congrArg _ (Finset.sum_congr rfl fun r _ => ?_)
  rw [mul_comm (T r) two, mul_assoc]

end

end Cert.Sums
-- ==== Proof.Spec.lean ====
/- THE PROBLEM'S VALUE over the arguments, at a token and an output feature, and what the kernel's grid point stores as it. -/
module

public import proofs.«01_k».proof.Proof.Grid
public import proofs.«01_k».proof.Proof.Sums

@[expose] public section

set_option maxRecDepth 16384

noncomputable section

namespace Cert.KernelIdeal.Spec

open Idealize.ShloMosaic Idealize.ShloMosaic.TcCoe Idealize.SL.Sem
open Cert.KernelIdeal Cert.KernelIdeal.Gen Cert.KernelIdeal.Tile Cert.KernelIdeal.Absmax Cert.KernelIdeal.Reads Cert.KernelIdeal.Grid

/-- The absmax of quantisation block `k` of output feature `n`: its int8 code scaled by its group of 256, plus the offset. -/
def absm (C : Vec Ideal S13824x102 .i8) (Sc : Vec Ideal S5508 .f32) (off : Vec Ideal S_ .f32) (n k : ℕ) : EReal :=
  FloatOps.sitofp (F := Ideal) .f32 (C (ix2 (Fin.ofNat 13824 n) (Fin.ofNat 102 k))) * Sc (ix1 (Fin.ofNat 5508 ((102 * n + k) / 256))) + off ix0

/-- The weight in nibble `h` (0 the high one) of byte `k` of output feature `n`: its level times its block's absmax. -/
def wt (W : Vec Ideal S13824x3264 .i8) (am : ℕ → ℕ → EReal) (n h k : ℕ) : EReal :=
  Ideal.ofBits .bf16 (lv (nib h (W (ix2 (Fin.ofNat 13824 n) (Fin.ofNat 3264 k))))) * am n (k / 32)

/-- The activation of token `m` at column `k`. -/
def act (X : Vec Ideal S16x1x6528 .bf16) (m k : ℕ) : EReal := X (ix3 (Fin.ofNat 16 m) 0 (Fin.ofNat 6528 k))

/-- The low-rank coefficient `r` of token `m`. -/
def lowr (X : Vec Ideal S16x1x6528 .bf16) (A : Vec Ideal S6528x16 .bf16) (m r : ℕ) : EReal :=
  ∑ k : Fin 6528, act X m k.val * A (ix2 k (Fin.ofNat 16 r))

/-- The result at token `m` and output feature `n`. -/
def spec (X : Vec Ideal S16x1x6528 .bf16) (W : Vec Ideal S13824x3264 .i8) (C : Vec Ideal S13824x102 .i8) (Sc : Vec Ideal S5508 .f32)
    (off : Vec Ideal S_ .f32) (A : Vec Ideal S6528x16 .bf16) (B : Vec Ideal S16x13824 .bf16) (m n : ℕ) : EReal :=
  (∑ k ∈ Finset.range 3264, act X m (2 * k) * wt W (absm C Sc off) n 0 k + ∑ k ∈ Finset.range 3264, act X m (2 * k + 1) * wt W (absm C Sc off) n 1 k)
    + Ideal.ofBits .bf16 0x4000#16 * ∑ r ∈ Finset.range 16, lowr X A m r * B (ix2 (Fin.ofNat 16 r) (Fin.ofNat 13824 n))

/-! ## The block's value, regrouped -/

theorem xsv_col (X : Vec Ideal S16x1x6528 .bf16) (A : Vec Ideal S6528x16 .bf16) (c m j : ℕ) :
    xsv (shapeCast S16x6528 X shapeCasts_S16x1x6528_S16x6528) A c m j = Sums.col (act X m) (lowr X A m) (Ideal.ofBits .bf16 0x4000#16) c j := by
  have e : ∀ k, gx (shapeCast S16x6528 X shapeCasts_S16x1x6528_S16x6528) m k = act X m k := fun k => drop_apply X _ _
  unfold xsv Sums.col
  have el : ∑ k : Fin 6528, gx (shapeCast S16x6528 X shapeCasts_S16x1x6528_S16x6528) m k.val * A (ix2 k (Fin.ofNat 16 (j - 128))) = lowr X A m (j - 128) :=
    Finset.sum_congr rfl fun k _ => congrArg (· * A (ix2 k (Fin.ofNat 16 (j - 128)))) (e k.val)
  rw [e, e, el]

theorem kval_regroup (X : Vec Ideal S16x1x6528 .bf16) (A : Vec Ideal S6528x16 .bf16) (x0 : Vec Ideal S512x3264 .i8) (am : ℕ → ℕ → ℕ → EReal)
    (x6 : Vec Ideal S16x512 .bf16) (s e m l : ℕ) :
    kval x0 am (xsv (shapeCast S16x6528 X shapeCasts_S16x1x6528_S16x6528) A) x6 s e m l
      = (∑ k ∈ Finset.range 3264, act X m (2 * k) * wv x0 am s (2 * l + e) 0 k + ∑ k ∈ Finset.range 3264, act X m (2 * k + 1) * wv x0 am s (2 * l + e) 1 k)
        + Ideal.ofBits .bf16 0x4000#16 * ∑ r ∈ Finset.range 16, lowr X A m r * gB x6 r (256 * s + (2 * l + e)) := by
  rw [← Sums.regroup (act X m) (lowr X A m) (fun r => gB x6 r (256 * s + (2 * l + e))) (fun h k => wv x0 am s (2 * l + e) h k) _ Sums.two_nonneg Sums.two_ne_top]
  unfold kval
  refine congrArg₂ (· + ·) (Finset.sum_congr rfl fun c _ => ?_) ?_
  · refine (Finset.sum_congr rfl fun j _ => congrArg (· * wv x0 am s (2 * l + e) (j.val / 128) (128 * c + j.val % 128)) (xsv_col X A c m j.val)).trans ?_
    exact Fin.sum_univ_eq_sum_range (fun j => Sums.col (act X m) (lowr X A m) (Ideal.ofBits .bf16 0x4000#16) c j * wv x0 am s (2 * l + e) (j / 128) (128 * c + j % 128)) 256
  · refine (Finset.sum_congr rfl fun j _ => congrArg (· * (if j.val < 128 then wv x0 am s (2 * l + e) (j.val / 64) (3200 + j.val % 64)
      else if j.val < 144 then gB x6 (j.val - 128) (256 * s + (2 * l + e)) else 0)) (xsv_col X A 25 m j.val)).trans ?_
    exact Fin.sum_univ_eq_sum_range (fun j => Sums.col (act X m) (lowr X A m) (Ideal.ofBits .bf16 0x4000#16) 25 j * (if j < 128 then wv x0 am s (2 * l + e) (j / 64) (3200 + j % 64)
      else if j < 144 then gB x6 (j - 128) (256 * s + (2 * l + e)) else 0)) 256

variable (m : (ℓ : Loc nD τ sig) → Buf (Elt Ideal) ℓ)

/-- The value over a device's arguments. -/
def specAt (c : Dev nD) (a n : ℕ) : EReal :=
  spec (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) a n

theorem ofNat_eq {N a : ℕ} [NeZero N] (h : a < N) : Fin.ofNat N a = ⟨a, h⟩ := Fin.ext (Nat.mod_eq_of_lt h)

theorem amAt_absm (c : Dev nD) (t : Fin cfg0.N) (s ρ k : ℕ) (hs : s < 2) (hρ : ρ < 256) (hk : k < 102) :
    amAt (grid0.coords t) (iblk m c 1 t) (iblk m c 2 t) (iblk m c 3 t) s ρ k
      = absm (m ((c : Thread nD τ).loc main_arg2)) (m ((c : Thread nD τ).loc main_arg3)) (m ((c : Thread nD τ).loc main_arg4)) (512 * t.val + (256 * s + ρ)) k := by
  have ht : t.val < 27 := lt_of_lt_of_eq t.isLt (show cfg0.N = 27 from N_0)
  have hi : ((grid0.coords t) 0).val = t.val := (idx t).2.2.2.2.2.2.2.2.2.2
  unfold amAt absm
  rw [hi, ofNat_eq (show 256 * s + ρ < 512 by omega), ofNat_eq (show k < 102 by omega), ofNat_eq (show 2 * t.val + s < 56 by omega),
    ofNat_eq (show (102 * ρ + k) / 256 < 128 by omega), ofNat_eq (show 512 * t.val + (256 * s + ρ) < 13824 by omega),
    ofNat_eq (show (102 * (512 * t.val + (256 * s + ρ)) + k) / 256 < 5508 by omega)]
  refine congrArg₂ (· + ·) (congrArg₂ (· * ·) (congrArg _ ?_) ?_) ?_
  · exact read1 m c t ⟨256 * s + ρ, by omega⟩ ⟨k, hk⟩ (by show 512 * t.val + (256 * s + ρ) < 13824; omega)
  · refine (read2 m c t ⟨2 * t.val + s, by omega⟩ ⟨(102 * ρ + k) / 256, by omega⟩).trans ?_
    refine congrArg _ (congrArg ix1 (Fin.ext ?_))
    show 102 * (2 * t.val + s) + (102 * ρ + k) / 256 = (102 * (512 * t.val + (256 * s + ρ)) + k) / 256
    omega
  · exact read3 m c t

theorem wv_wt (c : Dev nD) (t : Fin cfg0.N) (s ρ h k : ℕ) (hs : s < 2) (hρ : ρ < 256) (hk : k < 3264) :
    wv (iblk m c 0 t) (amAt (grid0.coords t) (iblk m c 1 t) (iblk m c 2 t) (iblk m c 3 t)) s ρ h k
      = wt (m ((c : Thread nD τ).loc main_arg1)) (absm (m ((c : Thread nD τ).loc main_arg2)) (m ((c : Thread nD τ).loc main_arg3)) (m ((c : Thread nD τ).loc main_arg4)))
          (512 * t.val + (256 * s + ρ)) h k := by
  have ht : t.val < 27 := lt_of_lt_of_eq t.isLt (show cfg0.N = 27 from N_0)
  unfold wv wt gX
  rw [amAt_absm m c t s ρ (k / 32) hs hρ (by omega), ofNat_eq (show 256 * s + ρ < 512 by omega), ofNat_eq hk,
    ofNat_eq (show 512 * t.val + (256 * s + ρ) < 13824 by omega)]
  refine congrArg₂ (· * ·) (congrArg _ (congrArg lv (congrArg (nib h) ?_))) rfl
  exact read0 m c t ⟨256 * s + ρ, by omega⟩ ⟨k, hk⟩ (by show 512 * t.val + (256 * s + ρ) < 13824; omega)

theorem gB_arg (c : Dev nD) (t : Fin cfg0.N) (r o : ℕ) (hr : r < 16) (ho : o < 512) :
    gB (iblk m c 6 t) r o = (m ((c : Thread nD τ).loc main_arg6) : Vec Ideal S16x13824 .bf16) (ix2 (Fin.ofNat 16 r) (Fin.ofNat 13824 (512 * t.val + o))) := by
  have ht : t.val < 27 := lt_of_lt_of_eq t.isLt (show cfg0.N = 27 from N_0)
  rw [gB_at _ r o hr ho, ofNat_eq hr, ofNat_eq (show 512 * t.val + o < 13824 by omega)]
  exact read6 m c t ⟨r, hr⟩ ⟨o, ho⟩ (by show 512 * t.val + o < 13824; omega)

/-- What a grid point stores is the problem's value. -/
theorem block_spec (c : Dev nD) (t : Fin cfg0.N) (a : Fin 16) (o : Fin 512) :
    (outsAt0 m c t.val t.isLt).1 (ix2 a o) = specAt m c a.val (512 * t.val + o.val) := by
  have ho : 256 * (o.val / 256) + (2 * (o.val % 256 / 2) + o.val % 2) = o.val := by omega
  have hs : o.val / 256 < 2 := by omega
  have hρ : 2 * (o.val % 256 / 2) + o.val % 2 < 256 := by omega
  rw [block, actOf, kval_regroup, ho]
  unfold specAt spec
  refine congrArg₂ (· + ·) (congrArg₂ (· + ·) (Finset.sum_congr rfl fun k hk => ?_) (Finset.sum_congr rfl fun k hk => ?_))
    (congrArg _ (Finset.sum_congr rfl fun r hr => ?_))
  · rw [wv_wt m c t _ _ 0 k hs hρ (Finset.mem_range.mp hk), ho]
  · rw [wv_wt m c t _ _ 1 k hs hρ (Finset.mem_range.mp hk), ho]
  · rw [gB_arg m c t r o.val (Finset.mem_range.mp hr) o.isLt]

/-- The kernel's result array. -/
theorem final (c : Dev nD) :
    (dats m 0 c).arrAt 9 cfg0.N = fun y : S16x13824.Idx => specAt m c (y 0).val (y 1).val := by
  refine (dats m 0 c).arrAt_eq_of_covers 9 _ (by decide +kernel) fun t _ y => ?_
  blk_simp [idx t]
  rw [Gen.after0_9]
  have h := block_spec m c t (y 0) (y 1)
  rw [Nat.mul_comm 512] at h
  exact (congrArg (outsAt0 m c t.val t.isLt).1 (by blk_ext)).trans h

end Cert.KernelIdeal.Spec
-- ==== Proof.RefLevel.lean ====
/- THE REFERENCE'S QUANTISER at an index: its chain of selects over a code is the code's level. -/
module

public import proofs.«01_k».proof.Proof.Gen.ReferenceIdeal.Value
public import proofs.«01_k».proof.Proof.Chunk

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen
open Cert.KernelIdeal.Tile (lv)
open Cert.KernelIdeal.Tile (nib)

/-- The chain of selects over a code, through `f`. -/
def chain {α : Type} (f : BitVec 16 → α) (w : BitVec 32) : α :=
  Scalar.select (IntOp.cmpi .eq w 15#32) (f 0x3F80#16) <| Scalar.select (IntOp.cmpi .eq w 14#32) (f 0x3F39#16) <|
  Scalar.select (IntOp.cmpi .eq w 13#32) (f 0x3F10#16) <| Scalar.select (IntOp.cmpi .eq w 12#32) (f 0x3EE2#16) <|
  Scalar.select (IntOp.cmpi .eq w 11#32) (f 0x3EAD#16) <| Scalar.select (IntOp.cmpi .eq w 10#32) (f 0x3E7C#16) <|
  Scalar.select (IntOp.cmpi .eq w 9#32) (f 0x3E25#16) <| Scalar.select (IntOp.cmpi .eq w 8#32) (f 0x3DA3#16) <|
  Scalar.select (IntOp.cmpi .eq w 7#32) (f 0x0000#16) <| Scalar.select (IntOp.cmpi .eq w 6#32) (f 0xBDBA#16) <|
  Scalar.select (IntOp.cmpi .eq w 5#32) (f 0xBE3D#16) <| Scalar.select (IntOp.cmpi .eq w 4#32) (f 0xBE92#16) <|
  Scalar.select (IntOp.cmpi .eq w 3#32) (f 0xBECA#16) <| Scalar.select (IntOp.cmpi .eq w 2#32) (f 0xBF06#16) <|
  Scalar.select (IntOp.cmpi .eq w 1#32) (f 0xBF32#16) (f 0xBF80#16)

theorem select_map {α β : Type} (f : α → β) (c : BitVec 1) (a b : α) : Scalar.select c (f a) (f b) = f (Scalar.select c a b) := by
  unfold Scalar.select
  split <;> rfl

theorem chain_map {α : Type} (f : BitVec 16 → α) (w : BitVec 32) : chain f w = f (chain id w) := by
  unfold chain
  simp only [select_map, id]

theorem chain_hi : ∀ b : BitVec 8, chain id (IntOp.shrsi .vector (b.setWidth 32) 4#32) = lv (nib 0 b) := by
  decide +kernel

theorem chain_lo : ∀ b : BitVec 8, chain id (IntOp.andi (b.setWidth 32) 15#32) = lv (nib 1 b) := by
  decide +kernel

theorem pay3_apply (v9 : Vec Ideal S13824x102x32 .i8) (i : S13824x102x32.Idx) : k0_pay3 (F := Ideal) v9 i = (v9 i).setWidth 32 := by
  pointwise [k0_pay3]

theorem level_hi (v9 : Vec Ideal S13824x102x32 .i8) (i : S13824x102x32.Idx) :
    k0_pay7 (F := Ideal) (k0_pay5 (F := Ideal) v9) (k0_pay6 v9) 6#32 i = Ideal.ofBits .bf16 (lv (nib 0 (v9 i))) := by
  have e : k0_pay7 (F := Ideal) (k0_pay5 (F := Ideal) v9) (k0_pay6 v9) 6#32 i
      = chain (Ideal.ofBits .bf16) (IntOp.shrsi .vector (k0_pay3 (F := Ideal) v9 i) 4#32) := rfl
  rw [e, chain_map, pay3_apply, chain_hi]

/-- The low nibble's levels, as the last part of the body computes them. -/
def lows (v9 : Vec Ideal S13824x102x32 .i8) (i : S13824x102x32.Idx) : EReal :=
  chain (Ideal.ofBits .bf16) (k0_pay11 (k0_pay3 (F := Ideal) v9) i)

theorem level_lo (v9 : Vec Ideal S13824x102x32 .i8) (i : S13824x102x32.Idx) : lows v9 i = Ideal.ofBits .bf16 (lv (nib 1 (v9 i))) := by
  have e : lows v9 i = chain (Ideal.ofBits .bf16) (IntOp.andi (k0_pay3 (F := Ideal) v9 i) 15#32) := rfl
  rw [e, chain_map, pay3_apply, chain_lo]

theorem pay14_eq (v8 : FVec Ideal S13824x102 .bf16) (v81 : FVec Ideal S16x13824 .f32) (v83 : FVec Ideal S16x3264 .bf16) (v9 : Vec Ideal S13824x102x32 .i8) :
    k0_pay14 v8 v81 v83 (k0_pay11 (k0_pay3 (F := Ideal) v9)) (k0_pay12 (k0_pay3 (F := Ideal) v9)) (k0_pay13 (k0_pay3 (F := Ideal) v9)) (Scalar.ofBits (F := Ideal) .bf16 0x3DA3#16)
      = addf v81 (k0_pay9 v83 (lows v9) (k0_pay8 v8)) := rfl

theorem pay9_apply (v13 : FVec Ideal S16x3264 .bf16) (v76 : FVec Ideal S13824x102x32 .bf16) (v8 : FVec Ideal S13824x102 .bf16) (a : Fin 16) (n : Fin 13824) :
    k0_pay9 v13 v76 (k0_pay8 v8) (ix2 a n)
      = ∑ k : Fin 3264, v13 (ix2 a k) * (v76 (ix3 n ⟨k.val / 32, by omega⟩ ⟨k.val % 32, by omega⟩) * v8 (ix2 n ⟨k.val / 32, by omega⟩)) := by
  pointwise [k0_pay9, k0_pay8]

theorem pay2_apply (v0 : Vec Ideal S13824x102 .i8) (v2 : Vec Ideal S13824x102 .f32) (v5 : Elt Ideal .f32) (i : S13824x102.Idx) :
    k0_pay2 v0 v2 v5 i = FloatOps.sitofp (F := Ideal) .f32 (v0 i) * v2 i + v5 := by
  pointwise [k0_pay2]

theorem pay15_apply (v153 : Vec Ideal S16x6528 .bf16) (v155 : Vec Ideal S6528x16 .bf16) (a r : Fin 16) :
    k0_pay15 v153 v155 (ix2 a r) = ∑ k : Fin 6528, v153 (ix2 a k) * v155 (ix2 k r) := by
  pointwise [k0_pay15]

theorem pay1_apply (v152 : FVec Ideal S16x13824 .f32) (v156 : FVec Ideal S16x16 .f32) (v158 : Vec Ideal S16x13824 .bf16) (a : Fin 16) (n : Fin 13824) :
    k0_pay1 v152 v156 v158 (ix2 a n) = v152 (ix2 a n) + Ideal.ofBits .f32 0x40000000#32 * ∑ r : Fin 16, v156 (ix2 a r) * v158 (ix2 r n) := by
  pointwise [k0_pay1]

end Cert.ReferenceIdeal.Ref
-- ==== Proof.RefValue.lean ====
/- THE REFERENCE'S RESULT over the arguments: the problem's value at every token and output feature. -/
module

public import proofs.«01_k».proof.Proof.RefLevel
public import proofs.«01_k».proof.Proof.Spec
public import Idealize.ShloMosaic.Lib.Pipeline.ValueKit
public import Idealize.ShloMosaic.Lib.Claim

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen
open Cert.KernelIdeal.Tile (lv nib)
open Cert.KernelIdeal.Spec (absm wt act lowr spec ofNat_eq)

/-! ## The host's arrays -/

section Host
variable (X : Vec Ideal S16x1x6528 .bf16) (Sc : Vec Ideal S5508 .f32) (W : Vec Ideal S13824x3264 .i8)

/-- The activations in pairs. -/
def pairs : Vec Ideal S16x3264x2 .bf16 := shapeCast S16x3264x2 X shapeCasts_S16x1x6528_S16x3264x2

def evens : Vec Ideal S16x3264 .bf16 :=
  shapeCast S16x3264 (extractStridedSlice S16x3264x1 ![0, 0, 0] (pairs X) slices_S16x3264x2_S16x3264x1_0_0_0) shapeCasts_S16x3264x1_S16x3264

def odds : Vec Ideal S16x3264 .bf16 :=
  shapeCast S16x3264 (extractStridedSlice S16x3264x1 ![0, 0, 1] (pairs X) slices_S16x3264x2_S16x3264x1_0_0_1) shapeCasts_S16x3264x1_S16x3264

/-- Every group's scale 256 times, laid out as the blocks. -/
def scales : Vec Ideal S13824x102 .f32 :=
  shapeCast S13824x102 (broadcastInDim S5508x256 ![0, 1] bcast_S5508x1_S5508x256_0_1 (broadcastInDim S5508x1 ![0] bcast_S5508_S5508x1_0 Sc : Vec Ideal S5508x1 .f32) : Vec Ideal S5508x256 .f32)
    shapeCasts_S5508x256_S13824x102

def acts : Vec Ideal S16x6528 .bf16 := shapeCast S16x6528 X shapeCasts_S16x1x6528_S16x6528

/-- The bytes by output feature, quantisation block and position in it. -/
def bytes : Vec Ideal S13824x102x32 .i8 := shapeCast S13824x102x32 W shapeCasts_S13824x3264_S13824x102x32

theorem pairs_apply (a : Fin 16) (k : Fin 3264) (p : Fin 2) : pairs X (ix3 a k p) = X (ix3 a 0 ⟨2 * k.val + p.val, by omega⟩) := by
  pointwise [pairs]
  exact congrArg X (congrArg (ix3 a 0) (Fin.ext (by show k.val * 2 + p.val = 2 * k.val + p.val; omega)))

theorem evens_apply (a : Fin 16) (k : Fin 3264) : evens X (ix2 a k) = X (ix3 a 0 ⟨2 * k.val, by omega⟩) := by
  refine Eq.trans ?_ (pairs_apply X a k 0)
  pointwise [evens]

theorem odds_apply (a : Fin 16) (k : Fin 3264) : odds X (ix2 a k) = X (ix3 a 0 ⟨2 * k.val + 1, by omega⟩) := by
  refine Eq.trans ?_ (pairs_apply X a k 1)
  pointwise [odds]

theorem scales_apply (n : Fin 13824) (k : Fin 102) : scales Sc (ix2 n k) = Sc (ix1 ⟨(102 * n.val + k.val) / 256, by omega⟩) := by
  pointwise [scales]
  exact congrArg Sc (congrArg ix1 (Fin.ext (by show (n.val * 102 + k.val) / 256 = (102 * n.val + k.val) / 256; omega)))

theorem acts_apply (a : Fin 16) (k : Fin 6528) : acts X (ix2 a k) = X (ix3 a 0 k) := by
  pointwise [acts]

theorem bytes_apply (n : Fin 13824) (b : Fin 102) (j : Fin 32) : bytes W (ix3 n b j) = W (ix2 n ⟨32 * b.val + j.val, by omega⟩) := by
  pointwise [bytes]
  exact congrArg W (congrArg (ix2 n) (Fin.ext (by show b.val * 32 + j.val = 32 * b.val + j.val; omega)))

end Host

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0, 0] ∧ win0_4.index t = ![0, 0] ∧ win0_5.index t = ![0, 0] ∧ win0_6.index t = ![0]
    ∧ win0_7.index t = ![0, 0] ∧ win0_8.index t = ![0, 0] ∧ win0_9.index t = ![0, 0] :=
  (by decide +kernel : ∀ t : Fin grid0.N, _)

theorem b0 (c : Dev nD) (t : Fin cfg0.N) : (iblk m c 0 t : Vec Ideal S16x6528 .bf16) = acts (m ((c : Thread nD τ).loc main_arg0)) := by
  funext y
  have e : ((cfg0.win 0).blk t).view.emb y = (y : S16x6528.Idx) := by blk_ext [idx t]
  show V m c main_v8 (((cfg0.win 0).blk t).view.emb y) = _
  rw [e]
  entry_read
  rfl

theorem b1 (c : Dev nD) (t : Fin cfg0.N) : (iblk m c 1 t : Vec Ideal S16x3264 .bf16) = evens (m ((c : Thread nD τ).loc main_arg0)) := by
  funext y
  have e : ((cfg0.win 1).blk t).view.emb y = (y : S16x3264.Idx) := by blk_ext [idx t]
  show V m c main_v2 (((cfg0.win 1).blk t).view.emb y) = _
  rw [e]
  entry_read
  rfl

theorem b2 (c : Dev nD) (t : Fin cfg0.N) : (iblk m c 2 t : Vec Ideal S16x3264 .bf16) = odds (m ((c : Thread nD τ).loc main_arg0)) := by
  funext y
  have e : ((cfg0.win 2).blk t).view.emb y = (y : S16x3264.Idx) := by blk_ext [idx t]
  show V m c main_v4 (((cfg0.win 2).blk t).view.emb y) = _
  rw [e]
  entry_read
  rfl

theorem b3 (c : Dev nD) (t : Fin cfg0.N) : (iblk m c 3 t : Vec Ideal S13824x102x32 .i8) = bytes (m ((c : Thread nD τ).loc main_arg1)) := by
  funext y
  have e : ((cfg0.win 3).blk t).view.emb y = (y : S13824x102x32.Idx) := by blk_ext [idx t]
  show V m c main_v9 (((cfg0.win 3).blk t).view.emb y) = _
  rw [e]
  entry_read
  rfl

theorem b4 (c : Dev nD) (t : Fin cfg0.N) : (iblk m c 4 t : Vec Ideal S13824x102 .i8) = m ((c : Thread nD τ).loc main_arg2) := by
  blk_ext! [iblk, V_main_arg2, idx t]

theorem b5 (c : Dev nD) (t : Fin cfg0.N) : (iblk m c 5 t : Vec Ideal S13824x102 .f32) = scales (m ((c : Thread nD τ).loc main_arg3)) := by
  funext y
  have e : ((cfg0.win 5).blk t).view.emb y = (y : S13824x102.Idx) := by blk_ext [idx t]
  show V m c main_v7 (((cfg0.win 5).blk t).view.emb y) = _
  rw [e]
  entry_read
  rfl

theorem b6 (c : Dev nD) (t : Fin cfg0.N) : (iblk m c 6 t : Vec Ideal S1 .f32) = shapeCast S1 (m ((c : Thread nD τ).loc main_arg4) : Vec Ideal S_ .f32) shapeCasts_S_S1 := by
  funext y
  have e : ((cfg0.win 6).blk t).view.emb y = (y : S1.Idx) := by blk_ext [idx t]
  show V m c main_v10 (((cfg0.win 6).blk t).view.emb y) = _
  rw [e]
  entry_read
  rfl

theorem b7 (c : Dev nD) (t : Fin cfg0.N) : (iblk m c 7 t : Vec Ideal S6528x16 .bf16) = m ((c : Thread nD τ).loc main_arg5) := by
  blk_ext! [iblk, V_main_arg5, idx t]

theorem b8 (c : Dev nD) (t : Fin cfg0.N) : (iblk m c 8 t : Vec Ideal S16x13824 .bf16) = m ((c : Thread nD τ).loc main_arg6) := by
  blk_ext! [iblk, V_main_arg6, idx t]

/-- The absmax of every quantisation block. -/
def amax (c : Dev nD) : FVec Ideal S13824x102 .bf16 :=
  k0_pay2 (m ((c : Thread nD τ).loc main_arg2) : Vec Ideal S13824x102 .i8) (scales (m ((c : Thread nD τ).loc main_arg3)))
    ((m ((c : Thread nD τ).loc main_arg4) : Vec Ideal S_ .f32) ix0)

/-- The body's payload over the arguments. -/
def whole (c : Dev nD) : FVec Ideal S16x13824 .bf16 :=
  k0_pay1 (addf (k0_pay9 (k0_pay4 (evens (m ((c : Thread nD τ).loc main_arg0))))
      (k0_pay7 (F := Ideal) (k0_pay5 (F := Ideal) (bytes (m ((c : Thread nD τ).loc main_arg1)))) (k0_pay6 (bytes (m ((c : Thread nD τ).loc main_arg1)))) 6#32) (k0_pay8 (amax m c)))
      (k0_pay9 (k0_pay10 (odds (m ((c : Thread nD τ).loc main_arg0)))) (lows (bytes (m ((c : Thread nD τ).loc main_arg1)))) (k0_pay8 (amax m c))))
    (k0_pay15 (acts (m ((c : Thread nD τ).loc main_arg0))) (m ((c : Thread nD τ).loc main_arg5) : Vec Ideal S6528x16 .bf16))
    (m ((c : Thread nD τ).loc main_arg6) : Vec Ideal S16x13824 .bf16)

/-- The body's result over its operands. -/
theorem out_eq (c : Dev nD) (arg0 : Memref sig .tc .vmem S16x6528 .bf16) (harg0 : arg0.IsWhole) (arg1 : Memref sig .tc .vmem S16x3264 .bf16) (harg1 : arg1.IsWhole) (arg2 : Memref sig .tc .vmem S16x3264 .bf16) (harg2 : arg2.IsWhole) (arg3 : Memref sig .tc .vmem S13824x102x32 .i8) (harg3 : arg3.IsWhole) (arg4 : Memref sig .tc .vmem S13824x102 .i8) (harg4 : arg4.IsWhole) (arg5 : Memref sig .tc .vmem S13824x102 .f32) (harg5 : arg5.IsWhole) (arg6 : Memref sig .tc .smem S1 .f32) (harg6 : arg6.IsWhole) (arg7 : Memref sig .tc .vmem S6528x16 .bf16) (harg7 : arg7.IsWhole) (arg8 : Memref sig .tc .vmem S16x13824 .bf16) (harg8 : arg8.IsWhole) (arg9 : Memref sig .tc .vmem S16x13824 .bf16) (harg9 : arg9.IsWhole)
    (x0 : Vec Ideal S16x6528 .bf16) (x1 : Vec Ideal S16x3264 .bf16) (x2 : Vec Ideal S16x3264 .bf16) (x3 : Vec Ideal S13824x102x32 .i8) (x4 : Vec Ideal S13824x102 .i8) (x5 : Vec Ideal S13824x102 .f32) (x6 : Vec Ideal S1 .f32) (x7 : Vec Ideal S6528x16 .bf16) (x8 : Vec Ideal S16x13824 .bf16) :
    out0_A_9 c arg0 harg0 arg1 harg1 arg2 harg2 arg3 harg3 arg4 harg4 arg5 harg5 arg6 harg6 arg7 harg7 arg8 harg8 arg9 harg9 x0 x1 x2 x3 x4 x5 x6 x7 x8
      = k0_pay1 (addf (k0_pay9 (k0_pay4 x1) (k0_pay7 (F := Ideal) (k0_pay5 (F := Ideal) x3) (k0_pay6 x3) 6#32) (k0_pay8 (k0_pay2 x4 x5 (x6 (ix1 0)))))
          (k0_pay9 (k0_pay10 x2) (lows x3) (k0_pay8 (k0_pay2 x4 x5 (x6 (ix1 0))))))
        (k0_pay15 x0 x7) x8 := by
  unfold out0_A_9
  frame_out
  have e : ∀ h, View.ld x6 (Rect.unit (s := S1) ![0] ![1] inb_S1_S1_0) (Shape.Idx.first h) = x6 (ix1 0) := fun h =>
    congrArg x6 (funext fun (a : Fin 1) => by match a with | 0 => exact Subsingleton.elim (α := Fin 1) _ _)
  rw [e]
  exact congrArg (fun z => k0_pay1 z (k0_pay15 x0 x7) x8) (pay14_eq _ _ _ _)

theorem outs_whole (c : Dev nD) (t : Fin cfg0.N) : outsAt0 m c t = whole m c := by
  have e6 : (shapeCast S1 (m ((c : Thread nD τ).loc main_arg4) : Vec Ideal S_ .f32) shapeCasts_S_S1 : Vec Ideal S1 .f32) (ix1 0)
      = (m ((c : Thread nD τ).loc main_arg4) : Vec Ideal S_ .f32) ix0 := by
    unfold shapeCast
    exact congrArg _ (funext fun a => (show Fin 0 from a).elim0)
  unfold outsAt0
  refine (out_eq _ _ _ _ _ _ _ _ _ _ _ _ _ _ _ _ _ _ _ _ _ _ _ _ _ _ _ _ _ _).trans ?_
  rw [b0, b1, b2, b3, b4, b5, b6, b7, b8, e6]
  rfl

theorem whole_apply (c : Dev nD) (a : Fin 16) (n : Fin 13824) :
    whole m c (ix2 a n) = spec (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) a.val n.val := by
  have p4 : ∀ x : Vec Ideal S16x3264 .bf16, k0_pay4 x = x := fun x => by
    funext i
    pointwise [k0_pay4]
  have p10 : ∀ x : Vec Ideal S16x3264 .bf16, k0_pay10 x = x := fun x => by
    funext i
    pointwise [k0_pay10]
  have ham : ∀ k : ℕ, (hk : k < 3264) → amax m c (ix2 n ⟨k / 32, by omega⟩)
      = absm (m ((c : Thread nD τ).loc main_arg2)) (m ((c : Thread nD τ).loc main_arg3)) (m ((c : Thread nD τ).loc main_arg4)) n.val (k / 32) := fun k hk => by
    unfold amax absm
    rw [pay2_apply, scales_apply, ofNat_eq n.isLt, ofNat_eq (show k / 32 < 102 by omega), ofNat_eq (show (102 * n.val + k / 32) / 256 < 5508 by omega)]
  have hby : ∀ k : ℕ, (hk : k < 3264) → bytes (m ((c : Thread nD τ).loc main_arg1)) (ix3 n ⟨k / 32, by omega⟩ ⟨k % 32, by omega⟩)
      = (m ((c : Thread nD τ).loc main_arg1) : Vec Ideal S13824x3264 .i8) (ix2 (Fin.ofNat 13824 n.val) (Fin.ofNat 3264 k)) := fun k hk => by
    rw [bytes_apply, ofNat_eq n.isLt, ofNat_eq hk]
    exact congrArg _ (congrArg (ix2 n) (Fin.ext (Nat.div_add_mod k 32)))
  have hact : ∀ k : ℕ, (hk : k < 6528) → (m ((c : Thread nD τ).loc main_arg0) : Vec Ideal S16x1x6528 .bf16) (ix3 a 0 ⟨k, hk⟩)
      = act (m ((c : Thread nD τ).loc main_arg0)) a.val k := fun k hk => by
    unfold act
    rw [ofNat_eq a.isLt, ofNat_eq hk]
  unfold whole spec
  rw [pay1_apply, Sums.two_bf16, Sums.two_f32]
  rw [show ∀ u v : FVec Ideal S16x13824 .f32, addf u v (ix2 a n) = u (ix2 a n) + v (ix2 a n) from fun _ _ => rfl]
  rw [pay9_apply, pay9_apply, p4, p10]
  refine congrArg₂ (· + ·) (congrArg₂ (· + ·) ?_ ?_) (congrArg _ ?_)
  · rw [← Fin.sum_univ_eq_sum_range]
    refine Finset.sum_congr rfl fun k _ => ?_
    rw [evens_apply, hact _ (by omega), level_hi, hby k.val k.isLt, ham k.val k.isLt]
    rfl
  · rw [← Fin.sum_univ_eq_sum_range]
    refine Finset.sum_congr rfl fun k _ => ?_
    rw [odds_apply, hact _ (by omega), level_lo, hby k.val k.isLt, ham k.val k.isLt]
    rfl
  · rw [← Fin.sum_univ_eq_sum_range]
    refine Finset.sum_congr rfl fun r _ => ?_
    rw [pay15_apply, ofNat_eq r.isLt, ofNat_eq n.isLt]
    refine congrArg (· * _) (Finset.sum_congr rfl fun k _ => ?_)
    rw [acts_apply, hact _ k.isLt, ofNat_eq r.isLt]

/-- The reference's result array. -/
theorem final (c : Dev nD) :
    (dats m 0 c).arrAt 9 cfg0.N = fun y : S16x13824.Idx => spec (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (y 0).val (y 1).val := by
  refine (dats m 0 c).arrAt_eq_of_covers 9 _ (by decide +kernel) fun t _ y => ?_
  blk_simp [idx t]
  rw [Gen.after0_9]
  rw [outs_whole m c t]
  exact (congrArg (whole m c) (by blk_ext)).trans (whole_apply m c (y 0) (y 1))

end Cert.ReferenceIdeal.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import Idealize.ShloMosaic.Lib.Bf16Pair
public import Idealize.ShloMosaic.Lib.Bf16PairInverse
public import Idealize.ShloMosaic.Lib.Claim
public import proofs.«01_k».proof.Proof.Spec
public import proofs.«01_k».proof.Proof.RefValue
public import Idealize.ShloMosaic.Adequacy
public import Idealize.ShloMosaic.Init

@[expose] public section

set_option maxRecDepth 16384

noncomputable section

namespace Cert.Proof

open Idealize.ShloMosaic Idealize.SL.Sem Cert.Kernel

/-- On equal arguments, the result array of the reference is the kernel's. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.ReferenceIdeal.Gen.dats m' 0 c).arrAt 9 Cert.ReferenceIdeal.cfg0.N
      = (Cert.KernelIdeal.Gen.dats m 0 c).arrAt 9 Cert.KernelIdeal.cfg0.N := by
  refine (Cert.ReferenceIdeal.Ref.final m' c).trans (Eq.trans ?_ (Cert.KernelIdeal.Spec.final m c).symm)
  unfold Cert.KernelIdeal.Spec.specAt
  rw [h0, h1, h2, h3, h4, h5, h6]

/-- Both programs, on equal arguments, leave the same result and their arguments as they were. -/
theorem algebraic : algebraic_KernelIdeal_ReferenceIdeal := by
  pair_intro
  · run_from Cert.KernelIdeal.Value.run_blocks m g
  · run_from Cert.ReferenceIdeal.Value.run_blocks m' g'
    obtain ⟨h0, h1, h2, h3, h4, h5, h6⟩ := hagree c
    exact values m m' c h0 h1 h2 h3 h4 h5 h6

theorem claim : Cert.Claim := ⟨Cert.Kernel.Gen.facts, Cert.KernelIdeal.Gen.facts, Cert.ReferenceIdeal.Gen.facts, by
  exact ⟨fun m g _ => Cert.Kernel.Gen.frame m g, fun m g _ => Cert.KernelIdeal.Gen.frame m g,
    fun m g _ => Cert.ReferenceIdeal.Gen.frame m g,
    ⟨IdealRules.bf16_pair.bufferStatement .., IdealRules.bf16_pair.packStatement _,
      IdealRules.bf16_pair.statement .., IdealRules.bf16_pair.packStatement _, IdealRules.bf16_pair.statement ..,
      IdealRules.bf16_pair.packStatement _, IdealRules.bf16_pair.statement .., IdealRules.bf16_pair.statement ..,
      IdealRules.bf16_pair.statement ..⟩,
    algebraic⟩⟩

end Cert.Proof

end
